-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x512 : Shape := ⟨2, ![10000, 512]⟩
abbrev S2x10000x10000 : Shape := ⟨3, ![2, 10000, 10000]⟩
abbrev S512x128 : Shape := ⟨2, ![512, 128]⟩
abbrev S128 : Shape := ⟨1, ![128]⟩
abbrev S2x128x64 : Shape := ⟨3, ![2, 128, 64]⟩
abbrev S64 : Shape := ⟨1, ![64]⟩
abbrev S128x64 : Shape := ⟨2, ![128, 64]⟩
abbrev S2x64x32 : Shape := ⟨3, ![2, 64, 32]⟩
abbrev S32 : Shape := ⟨1, ![32]⟩
abbrev S64x32 : Shape := ⟨2, ![64, 32]⟩
abbrev S1x128 : Shape := ⟨2, ![1, 128]⟩
abbrev S1x64 : Shape := ⟨2, ![1, 64]⟩
abbrev S2x10000x64 : Shape := ⟨3, ![2, 10000, 64]⟩
abbrev S10000x64 : Shape := ⟨2, ![10000, 64]⟩
abbrev S2000x512 : Shape := ⟨2, ![2000, 512]⟩
abbrev S2x2000x64 : Shape := ⟨3, ![2, 2000, 64]⟩
abbrev S2000x64 : Shape := ⟨2, ![2000, 64]⟩
abbrev S2000x128 : Shape := ⟨2, ![2000, 128]⟩
abbrev S1x128x64 : Shape := ⟨3, ![1, 128, 64]⟩
abbrev S1x2000x64 : Shape := ⟨3, ![1, 2000, 64]⟩
abbrev S1x32 : Shape := ⟨2, ![1, 32]⟩
abbrev S10000x32 : Shape := ⟨2, ![10000, 32]⟩
abbrev S1x400x10000 : Shape := ⟨3, ![1, 400, 10000]⟩
abbrev S400x32 : Shape := ⟨2, ![400, 32]⟩
abbrev S2x10000x32 : Shape := ⟨3, ![2, 10000, 32]⟩
abbrev S400x64 : Shape := ⟨2, ![400, 64]⟩
abbrev S400x10000 : Shape := ⟨2, ![400, 10000]⟩
abbrev S1x10000x64 : Shape := ⟨3, ![1, 10000, 64]⟩
abbrev S1x64x32 : Shape := ⟨3, ![1, 64, 32]⟩
abbrev S1x10000x32 : Shape := ⟨3, ![1, 10000, 32]⟩

abbrev nBuf : Space → Nat
  | .hbm => 20
  | .vmem => 25
  | .smem => 0
  | _ => 0

abbrev bufTy : (tb : Table) → Fin (tcTables nBuf tb) → BufTy
  | .hbm, ⟨0, _⟩ => ⟨S10000x512, .f32⟩
  | .hbm, ⟨1, _⟩ => ⟨S2x10000x10000, .f32⟩
  | .hbm, ⟨2, _⟩ => ⟨S512x128, .f32⟩
  | .hbm, ⟨3, _⟩ => ⟨S128, .f32⟩
  | .hbm, ⟨4, _⟩ => ⟨S2x128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S2x64x32, .f32⟩
  | .hbm, ⟨10, _⟩ => ⟨S32, .f32⟩
  | .hbm, ⟨11, _⟩ => ⟨S64x32, .f32⟩
  | .hbm, ⟨12, _⟩ => ⟨S1x128, .f32⟩
  | .hbm, ⟨13, _⟩ => ⟨S1x64, .f32⟩
  | .hbm, ⟨14, _⟩ => ⟨S2x10000x64, .bf16⟩
  | .hbm, ⟨15, _⟩ => ⟨S10000x64, .f32⟩
  | .hbm, ⟨16, _⟩ => ⟨S1x64, .f32⟩
  | .hbm, ⟨17, _⟩ => ⟨S1x64, .f32⟩
  | .hbm, ⟨18, _⟩ => ⟨S1x32, .f32⟩
  | .hbm, ⟨19, _⟩ => ⟨S10000x32, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S2x128x64, .f32⟩
  | .local _ .vmem, ⟨5, _⟩ => ⟨S128x64, .f32⟩
  | .local _ .vmem, ⟨6, _⟩ => ⟨S1x64, .f32⟩
  | .local _ .vmem, ⟨7, _⟩ => ⟨S2x2000x64, .bf16⟩
  | .local _ .vmem, ⟨8, _⟩ => ⟨S2x2000x64, .bf16⟩
  | .local _ .vmem, ⟨9, _⟩ => ⟨S2000x64, .f32⟩
  | .local _ .vmem, ⟨10, _⟩ => ⟨S2000x64, .f32⟩
  | .local _ .vmem, ⟨11, _⟩ => ⟨S1x400x10000, .f32⟩
  | .local _ .vmem, ⟨12, _⟩ => ⟨S1x400x10000, .f32⟩
  | .local _ .vmem, ⟨13, _⟩ => ⟨S2x10000x64, .bf16⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S2x64x32, .f32⟩
  | .local _ .vmem, ⟨18, _⟩ => ⟨S64x32, .f32⟩
  | .local _ .vmem, ⟨19, _⟩ => ⟨S1x32, .f32⟩
  | .local _ .vmem, ⟨20, _⟩ => ⟨S400x32, .f32⟩
  | .local _ .vmem, ⟨21, _⟩ => ⟨S400x32, .f32⟩
  | .local _ .vmem, ⟨22, _⟩ => ⟨S10000x64, .f32⟩
  | .local _ .vmem, ⟨23, _⟩ => ⟨S2x10000x32, .bf16⟩
  | .local _ .vmem, ⟨24, _⟩ => ⟨S10000x32, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨3, ![2, 25, 2], ![false, false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let arg2 : BitVec 32 := BitVec.ofNat 32 (i 2).val
  let c0_i32_0 : BitVec 32 := 0#32
  let v2 : BitVec 1 := Scalar.cmpi .eq arg2 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k1_off1 (i : grid1.Coords) : Fin 2 → Nat :=
  let arg1 : BitVec 32 := BitVec.ofNat 32 (i 1).val
  let c400_i32 : BitVec 32 := 400#32
  let v0 : BitVec 32 := Scalar.muli arg1 c400_i32
  let v28 : Index := Scalar.indexCast v0
  let c0 : Index := 0#32
  ![v28.toNat, 0]
def k1_cond2 (i : grid1.Coords) : BitVec 1 :=
  let arg0 : BitVec 32 := BitVec.ofNat 32 (i 0).val
  let c0_i32_2 : BitVec 32 := 0#32
  let v6 : BitVec 1 := Scalar.cmpi .eq arg0 c0_i32_2
  let arg2 : BitVec 32 := BitVec.ofNat 32 (i 2).val
  let c1_i32 : BitVec 32 := 1#32
  let v7 : BitVec 1 := Scalar.cmpi .eq arg2 c1_i32
  let v8 : BitVec 1 := Scalar.andi v6 v7
  let v9 : BitVec 32 := Scalar.extui v8
  let c0_i32_3 : BitVec 32 := 0#32
  let v10 : BitVec 1 := Scalar.cmpi .ne v9 c0_i32_3
  v10

def k1_off2 (i : grid1.Coords) : Fin 2 → Nat :=
  let arg1 : BitVec 32 := BitVec.ofNat 32 (i 1).val
  let c400_i32 : BitVec 32 := 400#32
  let v0 : BitVec 32 := Scalar.muli arg1 c400_i32
  let v28 : Index := Scalar.indexCast v0
  let c0 : Index := 0#32
  ![v28.toNat, 0]
def k1_cond4 (i : grid1.Coords) : BitVec 1 :=
  let arg0 : BitVec 32 := BitVec.ofNat 32 (i 0).val
  let c1_i32_8 : BitVec 32 := 1#32
  let v18 : BitVec 1 := Scalar.cmpi .eq arg0 c1_i32_8
  let arg2 : BitVec 32 := BitVec.ofNat 32 (i 2).val
  let c0_i32_9 : BitVec 32 := 0#32
  let v19 : BitVec 1 := Scalar.cmpi .eq arg2 c0_i32_9
  let v20 : BitVec 1 := Scalar.andi v18 v19
  let v21 : BitVec 32 := Scalar.extui v20
  let c0_i32_10 : BitVec 32 := 0#32
  let v22 : BitVec 1 := Scalar.cmpi .ne v21 c0_i32_10
  v22

def k1_off3 (i : grid1.Coords) : Fin 2 → Nat :=
  let arg1 : BitVec 32 := BitVec.ofNat 32 (i 1).val
  let c400_i32 : BitVec 32 := 400#32
  let v0 : BitVec 32 := Scalar.muli arg1 c400_i32
  let v28 : Index := Scalar.indexCast v0
  let c0 : Index := 0#32
  ![v28.toNat, 0]
def k1_cond5 (i : grid1.Coords) : BitVec 1 :=
  let arg0 : BitVec 32 := BitVec.ofNat 32 (i 0).val
  let c1_i32_11 : BitVec 32 := 1#32
  let v23 : BitVec 1 := Scalar.cmpi .eq arg0 c1_i32_11
  let arg2 : BitVec 32 := BitVec.ofNat 32 (i 2).val
  let c1_i32_12 : BitVec 32 := 1#32
  let v24 : BitVec 1 := Scalar.cmpi .eq arg2 c1_i32_12
  let v25 : BitVec 1 := Scalar.andi v23 v24
  let v26 : BitVec 32 := Scalar.extui v25
  let c0_i32_13 : BitVec 32 := 0#32
  let v27 : BitVec 1 := Scalar.cmpi .ne v26 c0_i32_13
  v27

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage1_0 : Fin 2 → Memref sig .tc .vmem S1x400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S2x10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S2x64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S400x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true, false]
-- ==== ReferenceIdeal.lean ====
abbrev S10000x512 : Shape := ⟨2, ![10000, 512]⟩
abbrev S2x10000x10000 : Shape := ⟨3, ![2, 10000, 10000]⟩
abbrev S512x128 : Shape := ⟨2, ![512, 128]⟩
abbrev S128 : Shape := ⟨1, ![128]⟩
abbrev S2x128x64 : Shape := ⟨3, ![2, 128, 64]⟩
abbrev S64 : Shape := ⟨1, ![64]⟩
abbrev S128x64 : Shape := ⟨2, ![128, 64]⟩
abbrev S2x64x32 : Shape := ⟨3, ![2, 64, 32]⟩
abbrev S32 : Shape := ⟨1, ![32]⟩
abbrev S64x32 : Shape := ⟨2, ![64, 32]⟩
abbrev S10000x128 : Shape := ⟨2, ![10000, 128]⟩
abbrev S1x128 : Shape := ⟨2, ![1, 128]⟩
abbrev S_ : Shape := ⟨0, ![]⟩
abbrev S2x64x10000 : Shape := ⟨3, ![2, 64, 10000]⟩
abbrev S2x10000x64 : Shape := ⟨3, ![2, 10000, 64]⟩
abbrev S10000x64 : Shape := ⟨2, ![10000, 64]⟩
abbrev S1x64 : Shape := ⟨2, ![1, 64]⟩
abbrev S2x32x10000 : Shape := ⟨3, ![2, 32, 10000]⟩
abbrev S2x10000x32 : Shape := ⟨3, ![2, 10000, 32]⟩
abbrev S10000x32 : Shape := ⟨2, ![10000, 32]⟩
abbrev S1x32 : Shape := ⟨2, ![1, 32]⟩

abbrev nBuf : Space → Nat
  | .hbm => 110
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x10000x10000, .f32⟩
  | .hbm, ⟨2, _⟩ => ⟨S512x128, .f32⟩
  | .hbm, ⟨3, _⟩ => ⟨S128, .f32⟩
  | .hbm, ⟨4, _⟩ => ⟨S2x128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S2x64x32, .f32⟩
  | .hbm, ⟨10, _⟩ => ⟨S32, .f32⟩
  | .hbm, ⟨11, _⟩ => ⟨S64x32, .f32⟩
  | .hbm, ⟨12, _⟩ => ⟨S10000x128, .f32⟩
  | .hbm, ⟨13, _⟩ => ⟨S1x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .i1⟩
  | .hbm, ⟨19, _⟩ => ⟨S_, .f32⟩
  | .hbm, ⟨20, _⟩ => ⟨S10000x128, .f32⟩
  | .hbm, ⟨21, _⟩ => ⟨S10000x128, .i1⟩
  | .hbm, ⟨22, _⟩ => ⟨S_, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S2x64x10000, .f32⟩
  | .hbm, ⟨32, _⟩ => ⟨S2x10000x64, .f32⟩
  | .hbm, ⟨33, _⟩ => ⟨S2x10000x64, .f32⟩
  | .hbm, ⟨34, _⟩ => ⟨S_, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S10000x64, .f32⟩
  | .hbm, ⟨40, _⟩ => ⟨S10000x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S10000x64, .f32⟩
  | .hbm, ⟨54, _⟩ => ⟨S10000x64, .f32⟩
  | .hbm, ⟨55, _⟩ => ⟨S10000x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S10000x64, .f32⟩
  | .hbm, ⟨71, _⟩ => ⟨S10000x64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S10000x64, .f32⟩
  | .hbm, ⟨78, _⟩ => ⟨S10000x64, .f32⟩
  | .hbm, ⟨79, _⟩ => ⟨S1x64, .f32⟩
  | .hbm, ⟨80, _⟩ => ⟨S10000x64, .f32⟩
  | .hbm, ⟨81, _⟩ => ⟨S10000x64, .f32⟩
  | .hbm, ⟨82, _⟩ => ⟨S1x64, .f32⟩
  | .hbm, ⟨83, _⟩ => ⟨S10000x64, .f32⟩
  | .hbm, ⟨84, _⟩ => ⟨S10000x64, .f32⟩
  | .hbm, ⟨85, _⟩ => ⟨S_, .f32⟩
  | .hbm, ⟨86, _⟩ => ⟨S10000x64, .f32⟩
  | .hbm, ⟨87, _⟩ => ⟨S10000x64, .i1⟩
  | .hbm, ⟨88, _⟩ => ⟨S_, .f32⟩
  | .hbm, ⟨89, _⟩ => ⟨S10000x64, .f32⟩
  | .hbm, ⟨90, _⟩ => ⟨S10000x64, .i1⟩
  | .hbm, ⟨91, _⟩ => ⟨S_, .f32⟩
  | .hbm, ⟨92, _⟩ => ⟨S_, .f32⟩
  | .hbm, ⟨93, _⟩ => ⟨S10000x64, .f32⟩
  | .hbm, ⟨94, _⟩ => ⟨S10000x64, .f32⟩
  | .hbm, ⟨95, _⟩ => ⟨S10000x64, .f32⟩
  | .hbm, ⟨96, _⟩ => ⟨S_, .f32⟩
  | .hbm, ⟨97, _⟩ => ⟨S10000x64, .f32⟩
  | .hbm, ⟨98, _⟩ => ⟨S10000x64, .f32⟩
  | .hbm, ⟨99, _⟩ => ⟨S10000x64, .f32⟩
  | .hbm, ⟨100, _⟩ => ⟨S2x32x10000, .f32⟩
  | .hbm, ⟨101, _⟩ => ⟨S2x10000x32, .f32⟩
  | .hbm, ⟨102, _⟩ => ⟨S2x10000x32, .f32⟩
  | .hbm, ⟨103, _⟩ => ⟨S_, .f32⟩
  | .hbm, ⟨104, _⟩ => ⟨S10000x32, .f32⟩
  | .hbm, ⟨105, _⟩ => ⟨S1x32, .f32⟩
  | .hbm, ⟨106, _⟩ => ⟨S10000x32, .f32⟩
  | .hbm, ⟨107, _⟩ => ⟨S10000x32, .f32⟩
  | .hbm, ⟨108, _⟩ => ⟨S10000x32, .f32⟩
  | .hbm, ⟨109, _⟩ => ⟨S10000x32, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_cst_1 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_v4 : Ref sig .tc := ⟨.hbm, 25, rfl⟩
abbrev main_call0_v5 : Ref sig .tc := ⟨.hbm, 26, rfl⟩
abbrev main_call0_cst_2 : Ref sig .tc := ⟨.hbm, 27, rfl⟩
abbrev main_call0_v6 : Ref sig .tc := ⟨.hbm, 28, rfl⟩
abbrev main_call0_v7 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_c : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_cst_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_cst_2 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_cst_3 : Ref sig .tc := ⟨.hbm, 63, rfl⟩
abbrev main_call1_v12 : Ref sig .tc := ⟨.hbm, 64, rfl⟩
abbrev main_call1_cst_4 : Ref sig .tc := ⟨.hbm, 65, rfl⟩
abbrev main_call1_call0_v0 : Ref sig .tc := ⟨.hbm, 66, rfl⟩
abbrev main_call1_call0_v1 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_2 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_cst_1 : Ref sig .tc := ⟨.hbm, 91, rfl⟩
abbrev main_call2_call0_v0 : Ref sig .tc := ⟨.hbm, 92, rfl⟩
abbrev main_call2_call0_v1 : Ref sig .tc := ⟨.hbm, 93, rfl⟩
abbrev main_call2_v4 : Ref sig .tc := ⟨.hbm, 94, rfl⟩
abbrev main_call2_v5 : Ref sig .tc := ⟨.hbm, 95, rfl⟩
abbrev main_call2_cst_2 : Ref sig .tc := ⟨.hbm, 96, rfl⟩
abbrev main_call2_v6 : Ref sig .tc := ⟨.hbm, 97, rfl⟩
abbrev main_call2_v7 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_3 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩

abbrev nD : Nat := 1
abbrev τ : Topo := Topo.v7x

variable {F : FTy → Type} [FloatOps F]
-- ==== Proof.FggBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local instance] Cert.KernelIdeal.Gen.facts

/-! ## The rectangles the second call accesses -/

/-- One block of the adjacency: the whole staged block. -/
abbrev rA : Rect S1x400x10000 := Rect.unit (s := S1x400x10000) ![0, 0, 0] S1x400x10000.size inb_S1x400x10000_S1x400x10000_0_0_0
/-- The first layer's transformed nodes of edge type 0. -/
abbrev rX0 : Rect S2x10000x64 := Rect.unit (s := S2x10000x64) ![0, 0, 0] S1x10000x64.size inb_S2x10000x64_S1x10000x64_0_0_0
/-- The first layer's transformed nodes of edge type 1. -/
abbrev rX1 : Rect S2x10000x64 := Rect.unit (s := S2x10000x64) ![1, 0, 0] S1x10000x64.size inb_S2x10000x64_S1x10000x64_1_0_0
/-- The whole hidden layer. -/
abbrev rH : Rect S10000x64 := Rect.unit (s := S10000x64) ![0, 0] S10000x64.size inb_S10000x64_S10000x64_0_0
/-- A row of 64 parameters. -/
abbrev rG : Rect S1x64 := Rect.unit (s := S1x64) ![0, 0] S1x64.size inb_S1x64_S1x64_0_0
/-- The second layer's weights of edge type 0. -/
abbrev rW0 : Rect S2x64x32 := Rect.unit (s := S2x64x32) ![0, 0, 0] S1x64x32.size inb_S2x64x32_S1x64x32_0_0_0
/-- The second layer's weights of edge type 1. -/
abbrev rW1 : Rect S2x64x32 := Rect.unit (s := S2x64x32) ![1, 0, 0] S1x64x32.size inb_S2x64x32_S1x64x32_1_0_0
/-- The second layer's root weights. -/
abbrev rR1 : Rect S64x32 := Rect.unit (s := S64x32) ![0, 0] S64x32.size inb_S64x32_S64x32_0_0
/-- The second layer's bias. -/
abbrev rB1 : Rect S1x32 := Rect.unit (s := S1x32) ![0, 0] S1x32.size inb_S1x32_S1x32_0_0
/-- The second layer's transformed nodes of edge type 0. -/
abbrev rY0 : Rect S2x10000x32 := Rect.unit (s := S2x10000x32) ![0, 0, 0] S1x10000x32.size inb_S2x10000x32_S1x10000x32_0_0_0
/-- The second layer's transformed nodes of edge type 1. -/
abbrev rY1 : Rect S2x10000x32 := Rect.unit (s := S2x10000x32) ![1, 0, 0] S1x10000x32.size inb_S2x10000x32_S1x10000x32_1_0_0
/-- The whole of the second layer's root term. -/
abbrev rR : Rect S10000x32 := Rect.unit (s := S10000x32) ![0, 0] S10000x32.size inb_S10000x32_S10000x32_0_0
/-- The whole output block. -/
abbrev rO : Rect S400x32 := Rect.unit (s := S400x32) ![0, 0] S400x32.size inb_S400x32_S400x32_0_0

/-- Reading a whole buffer after one store reads the stored piece inside its rectangle and the old contents outside. -/
theorem read_writes_overlay {κ : Kind} {sp : Space} {s : Shape} {e : EltTy} (v : View sig κ sp s e) (f : v.ty.Contents (Elt F))
    (r : Rect s) (w : r.shape.Idx → Elt F e) :
    v.read (Elt F) (v.writes (Elt F) f [⟨r, w⟩]) = r.overlay (v.read (Elt F) f) w := by
  funext y
  by_cases hy : y ∈ r.set
  · obtain ⟨x, -, rfl⟩ := Finset.mem_map.mp ((Rect.map_emb_univ r).symm ▸ hy)
    exact (View.read_writes_cons_emb _ _ r w _ x).trans (r.overlay_emb _ w x).symm
  · rw [View.read_writes_cons_miss _ _ _ _ _ hy, Rect.overlay_of_not_mem _ _ _ hy]
    rfl

/-- The second layer's transformed nodes, one slice for each edge type, from the hidden layer. -/
def nextX (h : Vec F S10000x64 .f32) (x3 x4 : Vec F S1x64 .f32) (x5 : Vec F S2x64x32 .f32) : Vec F S2x10000x32 .bf16 :=
  View.canon [⟨rY1, k1_pay5 (k1_pay9 (View.ld h rH) (View.ld x3 rG) (View.ld x4 rG)) (View.ld x5 rW1)⟩,
    ⟨rY0, k1_pay4 (k1_pay10 (View.ld h rH) (View.ld x3 rG) (View.ld x4 rG) (View.ld x5 rW0))⟩]

/-- The second layer's root term from the hidden layer. -/
def nextR (h : Vec F S10000x64 .f32) (x3 x4 : Vec F S1x64 .f32) (x6 : Vec F S64x32 .f32) (x7 : Vec F S1x32 .f32) : Vec F S10000x32 .f32 :=
  View.canon [⟨rR, k1_pay6 (k1_pay9 (View.ld h rH) (View.ld x3 rG) (View.ld x4 rG)) (View.ld x6 rR1) (View.ld x7 rB1)⟩]

/-- A memref's elements held at some contents are owned at what they read. -/
theorem owned_back (c : Dev nD) {sp : Space} {sh : Shape} {e : EltTy} (m : Memref sig .tc sp sh e) (f : m.view.ty.Contents (Elt F))
    (X : sh.Idx → Elt F e) (h : m.view.read (Elt F) f = X) :
    (m.view.loc (c : Thread nD τ) ↦[m.view.set]{fullShare} f : sProp 𝕄)
      ⊢ iprop(∃ f', ⌜m.view.read (Elt F) f' = X⌝ ∗ (m.view.loc (c : Thread nD τ) ↦[m.view.set]{fullShare} f')) := by
  iintro H; iexists f; isplitr
  · ipureintro; exact h
  · iexact H

section Triples

variable (c : Dev nD) (E : Set ℕ) (i : grid1.Coords)
  (arg3 : Memref sig .tc .vmem S1x400x10000 .f32) (harg3 : arg3.IsWhole) (arg4 : Memref sig .tc .vmem S2x10000x64 .bf16) (harg4 : arg4.IsWhole)
  (arg5 : Memref sig .tc .vmem S10000x64 .f32) (harg5 : arg5.IsWhole) (arg6 : Memref sig .tc .vmem S1x64 .f32) (harg6 : arg6.IsWhole)
  (arg7 : Memref sig .tc .vmem S1x64 .f32) (harg7 : arg7.IsWhole) (arg8 : Memref sig .tc .vmem S2x64x32 .f32) (harg8 : arg8.IsWhole)
  (arg9 : Memref sig .tc .vmem S64x32 .f32) (harg9 : arg9.IsWhole) (arg10 : Memref sig .tc .vmem S1x32 .f32) (harg10 : arg10.IsWhole)
  (arg11 : Memref sig .tc .vmem S400x32 .f32) (harg11 : arg11.IsWhole) (arg12 : Memref sig .tc .vmem S10000x64 .f32) (harg12 : arg12.IsWhole)
  (arg13 : Memref sig .tc .vmem S2x10000x32 .bf16) (harg13 : arg13.IsWhole) (arg14 : Memref sig .tc .vmem S10000x32 .f32) (harg14 : arg14.IsWhole)

/-- The condition under which the body prepares the second layer: second sweep, first row block, first edge type. -/
def condMid : Prop :=
  Scalar.cmpi .ne (Scalar.extui (Scalar.andi (Scalar.cmpi .eq (BitVec.ofNat 32 (i 0).val) 1#32)
    (Scalar.andi (Scalar.cmpi .eq (BitVec.ofNat 32 (i 1).val) 0#32) (Scalar.cmpi .eq (BitVec.ofNat 32 (i 2).val) 0#32))) : BitVec 32) 0#32 = 1#1

set_option maxHeartbeats 4000000 in
/-- The body of the first sweep at edge type 0: the hidden layer's row block becomes the root term plus the first
    aggregation; nothing else is touched. -/
theorem triple_first (h1 : k1_cond1 i = 1#1) (h2 : ¬ k1_cond2 i = 1#1) (h3 : ¬ condMid i) (h4 : ¬ k1_cond4 i = 1#1) (h5 : ¬ k1_cond5 i = 1#1)
    (x0 : Vec F S1x400x10000 .f32) (x1 : Vec F S2x10000x64 .bf16) (x2 : Vec F S10000x64 .f32) (h : Vec F S10000x64 .f32) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg12 fullShare h
        ∗ (iprop(owns (c : Thread nD τ) arg3 fullShare x0
            ∗ owns (c : Thread nD τ) arg4 fullShare x1
            ∗ owns (c : Thread nD τ) arg5 fullShare x2
            ∗ owns (c : Thread nD τ) arg12 fullShare ((Rect.unit (s := S10000x64) (k1_off1 i) S400x64.size (k1_off1_inb i h1)).overlay h
                (k1_pay1 (View.ld x2 (Rect.unit (s := S10000x64) (k1_off1 i) S400x64.size (k1_off1_inb i h1))) (View.ld x0 rA) (View.ld x1 rX0)))) -∗ K ⟨⟩))
      ⊢ wp frame (wpE (defs₀ (F := F)) Variants.none c none) E (cc1__fgg_kernel i arg3 harg3 arg4 harg4 arg5 harg5 arg6 harg6 arg7 harg7 arg8 harg8 arg9 harg9 arg10 harg10 arg11 harg11 arg12 harg12 arg13 harg13 arg14 harg14) K := by
  simp only [cc1__fgg_kernel_eq_skeleton]; unfold cc1__fgg_kernel_skel
  unfold condMid at h3
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]; · iapply (owned_back c _ _ _ rfl); iexact H0
  isplitl [H1]; · iapply (owned_back c _ _ _ rfl); iexact H1
  isplitl [H2]; · iapply (owned_back c _ _ _ rfl); iexact H2
  iexists _; isplitr
  swap; · iexact H3
  ipureintro
  exact read_writes_overlay _ _ _ _

set_option maxHeartbeats 4000000 in
/-- The body of the first sweep at edge type 1: the hidden layer's row block is finished with the second aggregation,
    and the output block is filled with zeros. -/
theorem triple_second (h1 : ¬ k1_cond1 i = 1#1) (h2 : k1_cond2 i = 1#1) (h3 : ¬ condMid i) (h4 : ¬ k1_cond4 i = 1#1) (h5 : ¬ k1_cond5 i = 1#1)
    (x0 : Vec F S1x400x10000 .f32) (x1 : Vec F S2x10000x64 .bf16) (h : Vec F S10000x64 .f32) (K : PUnit → sProp 𝕄) :
    iprop(owns (c : Thread nD τ) arg3 fullShare x0
        ∗ owns (c : Thread nD τ) arg4 fullShare x1
        ∗ (∃ d, owns (c : Thread nD τ) arg11 fullShare d)
        ∗ owns (c : Thread nD τ) arg12 fullShare h
        ∗ (iprop(owns (c : Thread nD τ) arg3 fullShare x0
            ∗ owns (c : Thread nD τ) arg4 fullShare x1
            ∗ owns (c : Thread nD τ) arg11 fullShare (View.canon [⟨rO, k1_pay3⟩])
            ∗ owns (c : Thread nD τ) arg12 fullShare ((Rect.unit (s := S10000x64) (k1_off2 i) S400x64.size (k1_off2_inb i h2)).overlay h
                (k1_pay2 (View.ld h (Rect.unit (s := S10000x64) (k1_off2 i) S400x64.size (k1_off2_inb i h2))) (View.ld x0 rA) (View.ld x1 rX1)))) -∗ K ⟨⟩))
      ⊢ wp frame (wpE (defs₀ (F := F)) Variants.none c none) E (cc1__fgg_kernel i arg3 harg3 arg4 harg4 arg5 harg5 arg6 harg6 arg7 harg7 arg8 harg8 arg9 harg9 arg10 harg10 arg11 harg11 arg12 harg12 arg13 harg13 arg14 harg14) K := by
  simp only [cc1__fgg_kernel_eq_skeleton]; unfold cc1__fgg_kernel_skel
  unfold condMid at h3
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]; · iapply (owned_back c _ _ _ rfl); iexact H0
  isplitl [H1]; · iapply (owned_back c _ _ _ rfl); iexact H1
  isplitl [H2]
  · iexists _; isplitr
    swap; · iexact H2
    ipureintro
    exact View.read_writes_eq_canon _ _ _ (View.cover_of_tiled [⟨rO, _⟩] S400x32.size (by rfl))
  iexists _; isplitr
  swap; · iexact H3
  ipureintro
  exact read_writes_overlay _ _ _ _

set_option maxHeartbeats 4000000 in
/-- The body of the second sweep at edge type 0, past its first row block: the output block becomes the root term plus
    the first aggregation. -/
theorem triple_third (h1 : ¬ k1_cond1 i = 1#1) (h2 : ¬ k1_cond2 i = 1#1) (h3 : ¬ condMid i) (h4 : k1_cond4 i = 1#1) (h5 : ¬ k1_cond5 i = 1#1)
    (x0 : Vec F S1x400x10000 .f32) (y : Vec F S2x10000x32 .bf16) (r : Vec F S10000x32 .f32) (K : PUnit → sProp 𝕄) :
    iprop(owns (c : Thread nD τ) arg3 fullShare x0
        ∗ (∃ d, owns (c : Thread nD τ) arg11 fullShare d)
        ∗ owns (c : Thread nD τ) arg13 fullShare y
        ∗ owns (c : Thread nD τ) arg14 fullShare r
        ∗ (iprop(owns (c : Thread nD τ) arg3 fullShare x0
            ∗ owns (c : Thread nD τ) arg11 fullShare (View.canon [⟨rO, k1_pay7 (View.ld r (Rect.unit (s := S10000x32) (k1_off3 i) S400x32.size (k1_off3_inb i h4))) (View.ld x0 rA) (View.ld y rY0)⟩])
            ∗ owns (c : Thread nD τ) arg13 fullShare y
            ∗ owns (c : Thread nD τ) arg14 fullShare r) -∗ K ⟨⟩))
      ⊢ wp frame (wpE (defs₀ (F := F)) Variants.none c none) E (cc1__fgg_kernel i arg3 harg3 arg4 harg4 arg5 harg5 arg6 harg6 arg7 harg7 arg8 harg8 arg9 harg9 arg10 harg10 arg11 harg11 arg12 harg12 arg13 harg13 arg14 harg14) K := by
  simp only [cc1__fgg_kernel_eq_skeleton]; unfold cc1__fgg_kernel_skel
  unfold condMid at h3
  unfold owns
  iintro ⟨⟨%f0, %hf0, H0⟩, ⟨%d1, %f1, -, H1⟩, ⟨%f2, %hf2, H2⟩, ⟨%f3, %hf3, H3⟩, Hk⟩
  subst hf0 hf2 hf3
  sl_exec
  sl_step
  iapply Hk
  isplitl [H0]; · iapply (owned_back c _ _ _ rfl); iexact H0
  isplitl [H1]
  · iexists _; isplitr
    swap; · iexact H1
    ipureintro
    exact View.read_writes_eq_canon _ _ _ (View.cover_of_tiled [⟨rO, _⟩] S400x32.size (by rfl))
  isplitl [H2]; · iapply (owned_back c _ _ _ rfl); iexact H2
  iapply (owned_back c _ _ _ rfl); iexact H3

set_option maxHeartbeats 4000000 in
/-- The body of the second sweep at edge type 1: the second aggregation is added to the output block. -/
theorem triple_fourth (h1 : ¬ k1_cond1 i = 1#1) (h2 : ¬ k1_cond2 i = 1#1) (h3 : ¬ condMid i) (h4 : ¬ k1_cond4 i = 1#1) (h5 : k1_cond5 i = 1#1)
    (x0 : Vec F S1x400x10000 .f32) (d : Vec F S400x32 .f32) (y : Vec F S2x10000x32 .bf16) (K : PUnit → sProp 𝕄) :
    iprop(owns (c : Thread nD τ) arg3 fullShare x0
        ∗ owns (c : Thread nD τ) arg11 fullShare d
        ∗ owns (c : Thread nD τ) arg13 fullShare y
        ∗ (iprop(owns (c : Thread nD τ) arg3 fullShare x0
            ∗ owns (c : Thread nD τ) arg11 fullShare (View.canon [⟨rO, k1_pay8 (View.ld d rO) (View.ld x0 rA) (View.ld y rY1)⟩])
            ∗ owns (c : Thread nD τ) arg13 fullShare y) -∗ K ⟨⟩))
      ⊢ wp frame (wpE (defs₀ (F := F)) Variants.none c none) E (cc1__fgg_kernel i arg3 harg3 arg4 harg4 arg5 harg5 arg6 harg6 arg7 harg7 arg8 harg8 arg9 harg9 arg10 harg10 arg11 harg11 arg12 harg12 arg13 harg13 arg14 harg14) K := by
  simp only [cc1__fgg_kernel_eq_skeleton]; unfold cc1__fgg_kernel_skel
  unfold condMid at h3
  unfold owns
  iintro ⟨⟨%f0, %hf0, H0⟩, ⟨%f1, %hf1, H1⟩, ⟨%f2, %hf2, H2⟩, Hk⟩
  subst hf0 hf1 hf2
  sl_exec
  sl_step
  iapply Hk
  isplitl [H0]; · iapply (owned_back c _ _ _ rfl); iexact H0
  isplitl [H1]
  · iexists _; isplitr
    swap; · iexact H1
    ipureintro
    exact View.read_writes_eq_canon _ _ _ (View.cover_of_tiled [⟨rO, _⟩] S400x32.size (by rfl))
  iapply (owned_back c _ _ _ rfl); iexact H2

set_option maxHeartbeats 4000000 in
/-- The body at the start of the second sweep: it normalises the hidden layer, forms the second layer's transformed
    nodes and root term, and then runs as at every other row block of that sweep. -/
theorem triple_mid (h1 : ¬ k1_cond1 i = 1#1) (h2 : ¬ k1_cond2 i = 1#1) (h3 : condMid i) (h4 : k1_cond4 i = 1#1) (h5 : ¬ k1_cond5 i = 1#1)
    (x0 : Vec F S1x400x10000 .f32) (x3 x4 : Vec F S1x64 .f32) (x5 : Vec F S2x64x32 .f32) (x6 : Vec F S64x32 .f32) (x7 : Vec F S1x32 .f32) (h : Vec F S10000x64 .f32) (K : PUnit → sProp 𝕄) :
    iprop(owns (c : Thread nD τ) arg3 fullShare x0
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg12 fullShare h
        ∗ (∃ d, owns (c : Thread nD τ) arg11 fullShare d)
        ∗ (∃ d, owns (c : Thread nD τ) arg13 fullShare d)
        ∗ (∃ d, owns (c : Thread nD τ) arg14 fullShare d)
        ∗ (iprop(owns (c : Thread nD τ) arg3 fullShare x0
            ∗ owns (c : Thread nD τ) arg6 fullShare x3
            ∗ owns (c : Thread nD τ) arg7 fullShare x4
            ∗ owns (c : Thread nD τ) arg8 fullShare x5
            ∗ owns (c : Thread nD τ) arg9 fullShare x6
            ∗ owns (c : Thread nD τ) arg10 fullShare x7
            ∗ owns (c : Thread nD τ) arg12 fullShare h
            ∗ owns (c : Thread nD τ) arg11 fullShare (View.canon [⟨rO, k1_pay7 (View.ld (nextR h x3 x4 x6 x7) (Rect.unit (s := S10000x32) (k1_off3 i) S400x32.size (k1_off3_inb i h4))) (View.ld x0 rA) (View.ld (nextX h x3 x4 x5) rY0)⟩])
            ∗ owns (c : Thread nD τ) arg13 fullShare (nextX h x3 x4 x5)
            ∗ owns (c : Thread nD τ) arg14 fullShare (nextR h x3 x4 x6 x7)) -∗ K ⟨⟩))
      ⊢ wp frame (wpE (defs₀ (F := F)) Variants.none c none) E (cc1__fgg_kernel i arg3 harg3 arg4 harg4 arg5 harg5 arg6 harg6 arg7 harg7 arg8 harg8 arg9 harg9 arg10 harg10 arg11 harg11 arg12 harg12 arg13 harg13 arg14 harg14) K := by
  simp only [cc1__fgg_kernel_eq_skeleton]; unfold cc1__fgg_kernel_skel
  simp only [k1_part1_eq_skeleton]
  unfold condMid at h3
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]; · iapply (owned_back c _ _ _ rfl); iexact H0
  isplitl [H1]; · iapply (owned_back c _ _ _ rfl); iexact H1
  isplitl [H2]; · iapply (owned_back c _ _ _ rfl); iexact H2
  isplitl [H3]; · iapply (owned_back c _ _ _ rfl); iexact H3
  isplitl [H4]; · iapply (owned_back c _ _ _ rfl); iexact H4
  isplitl [H5]; · iapply (owned_back c _ _ _ rfl); iexact H5
  isplitl [H6]; · iapply (owned_back c _ _ _ rfl); iexact H6
  isplitl [H7]
  · iexists _; isplitr
    swap; · iexact H7
    ipureintro
    refine (View.read_writes_eq_canon _ _ _ (View.cover_of_tiled [⟨rO, _⟩] S400x32.size (by rfl))).trans ?_
    unfold triple_mid.sl.v29 triple_mid.sl.v33 triple_mid.sl.H9_1 triple_mid.sl.H8_2
    rw [View.readAt_eq_ld, View.read_writes_junk_eq_canon,
      View.readCov_eq_canon_ld _ _ _ (View.cover_of_tiled [⟨rY1, _⟩, ⟨rY0, _⟩] S1x10000x32.size (by rfl))]
    rfl
  isplitl [H8]
  · iexists _; isplitr
    swap; · iexact H8
    ipureintro
    exact View.read_writes_eq_canon _ _ _ (View.cover_of_tiled [⟨rY1, _⟩, ⟨rY0, _⟩] S1x10000x32.size (by rfl))
  iexists _; isplitr
  swap; · iexact H9
  ipureintro
  exact View.read_writes_eq_canon _ _ _ (View.cover_of_tiled [⟨rR, _⟩] S10000x32.size (by rfl))

end Triples

end Cert.Proof

end

end
-- ==== Proof.FggState.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.FggBody
public import Idealize.ShloMosaic.Lib.Pipeline.Value
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

attribute [local instance] Cert.KernelIdeal.Gen.facts

open Idealize.ShloMosaic.ValueIdx

/-! ## The grid's points and the row blocks -/

/-- The grid point of sweep `l`, row block `b`, edge type `e`. -/
def ptOf (l : Fin 2) (b : Fin 25) (e : Fin 2) : Fin grid1.N := ⟨50 * l.val + 2 * b.val + e.val, by rw [N_1]; omega⟩

/-- Every grid point is one of them. -/
theorem exists_ptOf (t : Fin grid1.N) : ∃ l b e, t = ptOf l b e := by
  have h : t.val < 100 := lt_of_lt_of_eq t.isLt N_1
  refine ⟨⟨t.val / 50, by omega⟩, ⟨t.val % 50 / 2, by omega⟩, ⟨t.val % 2, by omega⟩, Fin.ext ?_⟩
  simp only [ptOf]
  omega

/-- Row block `b` lies inside the hidden layer, and inside the second layer's root term. -/
theorem rowsH_inb (b : Fin 25) (a : Fin S10000x64.rank) : (![400 * b.val, 0] : Fin 2 → ℕ) a + S400x64.size a ≤ S10000x64.size a := by
  fin_cases a <;> simp [S10000x64, S400x64] <;> omega

/-- Row block `b` lies inside the second layer's root term. -/
theorem rowsO_inb (b : Fin 25) (a : Fin S10000x32.rank) : (![400 * b.val, 0] : Fin 2 → ℕ) a + S400x32.size a ≤ S10000x32.size a := by
  fin_cases a <;> simp [S10000x32, S400x32] <;> omega

/-- Rows `400 b … 400 b + 399` of the hidden layer. -/
abbrev rowsH (b : Fin 25) : Rect S10000x64 := Rect.unit (s := S10000x64) ![400 * b.val, 0] S400x64.size (rowsH_inb b)

/-- Rows `400 b … 400 b + 399` of the second layer's root term. -/
abbrev rowsO (b : Fin 25) : Rect S10000x32 := Rect.unit (s := S10000x32) ![400 * b.val, 0] S400x32.size (rowsO_inb b)

/-- Row `400 b + y 0`, column `y 1` of the hidden layer. -/
theorem rowsH_emb (b : Fin 25) (y : S400x64.Idx) :
    (rowsH b).emb y = ix2 (n0 := 10000) (n1 := 64) ⟨400 * b.val + (y 0).val, by have := b.isLt; have := idx2_lt0 y; omega⟩ (y 1) := by
  funext a
  match a with
  | ⟨0, _⟩ => exact Fin.ext (show 400 * b.val + 1 * (y 0).val = _ by rw [one_mul])
  | ⟨1, _⟩ => exact Fin.ext (show 0 + 1 * (y 1).val = _ by rw [one_mul, zero_add])

/-- Row blocks of different numbers have no element in common. -/
theorem rowsH_disjoint {b b' : Fin 25} (h : b ≠ b') (y : S400x64.Idx) : (rowsH b').emb y ∉ (rowsH b).set := by
  intro hm
  obtain ⟨x, -, hx⟩ := Finset.mem_map.mp ((Rect.map_emb_univ (rowsH b)).symm ▸ hm)
  have e := congrArg (fun j => (j 0).val) hx
  rw [rowsH_emb, rowsH_emb] at e
  have e' : 400 * b.val + (x 0).val = 400 * b'.val + (y 0).val := e
  have := idx2_lt0 (n0 := 400) (n1 := 64) x
  have := idx2_lt0 (n0 := 400) (n1 := 64) y
  exact h (Fin.ext (by omega))

/-- A row block stored and read back. -/
theorem ld_overlay_same (b : Fin 25) (h : Vec F S10000x64 .f32) (p : Vec F S400x64 .f32) :
    View.ld ((rowsH b).overlay h p) (rowsH b) = p :=
  funext fun y => (rowsH b).overlay_emb h p y

/-- A row block stored leaves the others. -/
theorem ld_overlay_other {b b' : Fin 25} (hb : b ≠ b') (h : Vec F S10000x64 .f32) (p : Vec F S400x64 .f32) :
    View.ld ((rowsH b).overlay h p) (rowsH b') = View.ld h (rowsH b') :=
  funext fun y => (rowsH b).overlay_of_not_mem h p (rowsH_disjoint hb y)

/-- The one store of the whole output block. -/
theorem canon_rO (p : Vec F S400x32 .f32) : View.canon [⟨rO, p⟩] = p :=
  View.canon_unit_zero (by decide) _ p

/-- The whole output block read. -/
theorem ld_rO (p : Vec F S400x32 .f32) : View.ld p rO = p := View.ld_unit_zero (by decide) _ p

/-! ## What the scratch buffers hold -/

section State

variable (A : Fin grid1.N → Vec F S1x400x10000 .f32) (xw : Vec F S2x10000x64 .bf16) (xr : Vec F S10000x64 .f32)
  (g be : Vec F S1x64 .f32) (w1 : Vec F S2x64x32 .f32) (r1 : Vec F S64x32 .f32) (b1 : Vec F S1x32 .f32)

/-- The hidden layer's row block after edge type 0. -/
def hidA (b : Fin 25) : Vec F S400x64 .f32 := k1_pay1 (View.ld xr (rowsH b)) (View.ld (A (ptOf 0 b 0)) rA) (View.ld xw rX0)

/-- The hidden layer's row block after both edge types. -/
def hidB (b : Fin 25) : Vec F S400x64 .f32 := k1_pay2 (hidA A xw xr b) (View.ld (A (ptOf 0 b 1)) rA) (View.ld xw rX1)

/-- The hidden layer, before normalisation. -/
def hid : Vec F S10000x64 .f32 := fun j =>
  hidB A xw xr ⟨(j 0).val / 400, by have := idx2_lt0 j; omega⟩ (ix2 (n0 := 400) (n1 := 64) ⟨(j 0).val % 400, Nat.mod_lt _ (by decide)⟩ (j 1))

/-- The output block after edge type 0. -/
def outA (b : Fin 25) : Vec F S400x32 .f32 :=
  k1_pay7 (View.ld (nextR (hid A xw xr) g be r1 b1) (rowsO b)) (View.ld (A (ptOf 1 b 0)) rA) (View.ld (nextX (hid A xw xr) g be w1) rY0)

/-- The output block after both edge types. -/
def outB (b : Fin 25) : Vec F S400x32 .f32 :=
  k1_pay8 (outA A xw xr g be w1 r1 b1 b) (View.ld (A (ptOf 1 b 1)) rA) (View.ld (nextX (hid A xw xr) g be w1) rY1)

/-- What the three scratch buffers hold once `n` points have run: the row blocks both edge types have been added to,
    the one only the first has, and, past the first sweep, the second layer's operands. -/
def St (n : ℕ) (h : Vec F S10000x64 .f32) (y : Vec F S2x10000x32 .bf16) (r : Vec F S10000x32 .f32) : Prop :=
  (∀ b : Fin 25, 2 * b.val + 1 < n → View.ld h (rowsH b) = hidB A xw xr b)
    ∧ (∀ b : Fin 25, n = 2 * b.val + 1 → View.ld h (rowsH b) = hidA A xw xr b)
    ∧ (50 < n → y = nextX (hid A xw xr) g be w1 ∧ r = nextR (hid A xw xr) g be r1 b1)

/-- Nothing is known at the start, and nothing is needed. -/
theorem St_zero (h y r) : St A xw xr g be w1 r1 b1 0 h y r :=
  ⟨fun _ hb => absurd hb (Nat.not_lt_zero _), fun _ hb => absurd hb (by omega), fun hb => absurd hb (by decide)⟩

/-- The first sweep at edge type 0. -/
theorem St_first (b : Fin 25) {h y r} (hs : St A xw xr g be w1 r1 b1 (2 * b.val) h y r) :
    St A xw xr g be w1 r1 b1 (2 * b.val + 1) ((rowsH b).overlay h (hidA A xw xr b)) y r := by
  refine ⟨fun b' hb => ?_, fun b' hb => ?_, fun hb => absurd hb (by omega)⟩
  · rw [ld_overlay_other (fun e => by subst e; omega), hs.1 b' (by omega)]
  · obtain rfl : b = b' := Fin.ext (by omega)
    exact ld_overlay_same _ _ _

/-- The first sweep at edge type 1. -/
theorem St_second (b : Fin 25) {h y r} (hs : St A xw xr g be w1 r1 b1 (2 * b.val + 1) h y r) :
    St A xw xr g be w1 r1 b1 (2 * b.val + 2) ((rowsH b).overlay h
      (k1_pay2 (View.ld h (rowsH b)) (View.ld (A (ptOf 0 b 1)) rA) (View.ld xw rX1))) y r := by
  refine ⟨fun b' hb => ?_, fun b' hb => absurd hb (by omega), fun hb => absurd hb (by omega)⟩
  by_cases e : b = b'
  · subst e
    rw [ld_overlay_same, hs.2.1 b rfl]
    rfl
  · rw [ld_overlay_other e, hs.1 b' (by have : b.val ≠ b'.val := fun h => e (Fin.ext h); omega)]

/-- Past the first sweep the hidden layer is complete. -/
theorem St_hid {n : ℕ} (hn : 50 ≤ n) {h y r} (hs : St A xw xr g be w1 r1 b1 n h y r) : h = hid A xw xr := by
  funext j
  have hj := idx2_lt0 j
  have e := congrFun (hs.1 ⟨(j 0).val / 400, by omega⟩ (by dsimp only; omega))
    (ix2 (n0 := 400) (n1 := 64) ⟨(j 0).val % 400, Nat.mod_lt _ (by decide)⟩ (j 1))
  refine Eq.trans (congrArg h ?_) e
  refine Eq.trans ?_ (rowsH_emb _ _).symm
  funext a
  match a with
  | ⟨0, _⟩ => exact Fin.ext (show (j 0).val = 400 * ((j 0).val / 400) + (j 0).val % 400 by omega)
  | ⟨1, _⟩ => rfl

/-- The start of the second sweep. -/
theorem St_mid {h y r} (hs : St A xw xr g be w1 r1 b1 50 h y r) :
    St A xw xr g be w1 r1 b1 51 h (nextX h g be w1) (nextR h g be r1 b1) := by
  refine ⟨fun b' hb => hs.1 b' (by have := b'.isLt; omega), fun b' hb => absurd hb (by have := b'.isLt; omega), fun _ => ?_⟩
  rw [St_hid A xw xr g be w1 r1 b1 (le_refl _) hs]
  exact ⟨rfl, rfl⟩

/-- The rest of the second sweep. -/
theorem St_rest {n : ℕ} (hn : 50 < n) {h y r} (hs : St A xw xr g be w1 r1 b1 n h y r) :
    St A xw xr g be w1 r1 b1 (n + 1) h y r :=
  ⟨fun b' hb => hs.1 b' (by have := b'.isLt; omega), fun b' hb => absurd hb (by have := b'.isLt; omega), fun _ => hs.2.2 hn⟩

end State

/-! ## The conditions at each point -/

instance (i : grid1.Coords) : Decidable (condMid i) := by unfold condMid; infer_instance

/-- At the first sweep's points of edge type 0 only the first branch runs. -/
theorem conds_first : ∀ b : Fin 25, k1_cond1 (grid1.coords (ptOf 0 b 0)) = 1#1 ∧ ¬ k1_cond2 (grid1.coords (ptOf 0 b 0)) = 1#1
    ∧ ¬ condMid (grid1.coords (ptOf 0 b 0)) ∧ ¬ k1_cond4 (grid1.coords (ptOf 0 b 0)) = 1#1 ∧ ¬ k1_cond5 (grid1.coords (ptOf 0 b 0)) = 1#1 := by
  decide +kernel

/-- At the first sweep's points of edge type 1 only the second branch runs. -/
theorem conds_second : ∀ b : Fin 25, ¬ k1_cond1 (grid1.coords (ptOf 0 b 1)) = 1#1 ∧ k1_cond2 (grid1.coords (ptOf 0 b 1)) = 1#1
    ∧ ¬ condMid (grid1.coords (ptOf 0 b 1)) ∧ ¬ k1_cond4 (grid1.coords (ptOf 0 b 1)) = 1#1 ∧ ¬ k1_cond5 (grid1.coords (ptOf 0 b 1)) = 1#1 := by
  decide +kernel

/-- At the second sweep's points of edge type 0 the fourth branch runs, and the third one at the first row block. -/
theorem conds_third : ∀ b : Fin 25, ¬ k1_cond1 (grid1.coords (ptOf 1 b 0)) = 1#1 ∧ ¬ k1_cond2 (grid1.coords (ptOf 1 b 0)) = 1#1
    ∧ (condMid (grid1.coords (ptOf 1 b 0)) ↔ b = 0) ∧ k1_cond4 (grid1.coords (ptOf 1 b 0)) = 1#1 ∧ ¬ k1_cond5 (grid1.coords (ptOf 1 b 0)) = 1#1 := by
  decide +kernel

/-- At the second sweep's points of edge type 1 only the fifth branch runs. -/
theorem conds_fourth : ∀ b : Fin 25, ¬ k1_cond1 (grid1.coords (ptOf 1 b 1)) = 1#1 ∧ ¬ k1_cond2 (grid1.coords (ptOf 1 b 1)) = 1#1
    ∧ ¬ condMid (grid1.coords (ptOf 1 b 1)) ∧ ¬ k1_cond4 (grid1.coords (ptOf 1 b 1)) = 1#1 ∧ k1_cond5 (grid1.coords (ptOf 1 b 1)) = 1#1 := by
  decide +kernel

/-- The row offset the body computes is the row block's. -/
theorem off1_eq : ∀ b : Fin 25, k1_off1 (grid1.coords (ptOf 0 b 0)) = ![400 * b.val, 0] := by decide +kernel
/-- Where the second stage of the first sweep reads and writes its rows. -/
theorem off2_eq : ∀ b : Fin 25, k1_off2 (grid1.coords (ptOf 0 b 1)) = ![400 * b.val, 0] := by decide +kernel
/-- Where the first stage of the second sweep reads its rows. -/
theorem off3_eq : ∀ b : Fin 25, k1_off3 (grid1.coords (ptOf 1 b 0)) = ![400 * b.val, 0] := by decide +kernel

/-- Reading at equal offsets reads the same. -/
theorem ld_congr {s : Shape} {e : EltTy} {off off' size : Fin s.rank → ℕ} (h : off = off') (inb inb') (x : Vec F s e) :
    View.ld x (Rect.unit (s := s) off size inb) = View.ld x (Rect.unit (s := s) off' size inb') := by
  subst h; rfl

/-- Overlaying at equal offsets gives the same. -/
theorem overlay_congr {s : Shape} {e : EltTy} {off off' size : Fin s.rank → ℕ} (h : off = off') (inb inb') (x : Vec F s e)
    (p : Vec F ⟨s.rank, size⟩ e) :
    (Rect.unit (s := s) off size inb).overlay x p = (Rect.unit (s := s) off' size inb').overlay x p := by
  subst h; rfl

end Cert.Proof

end

end
-- ==== Proof.PreRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.FggState
public import Idealize.ShloMosaic.Lib.Pipeline.FrameBody
public import Idealize.ShloMosaic.Lib.Pipeline.Regions
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local instance] Cert.KernelIdeal.Gen.facts

/-! ## The rectangles the first call accesses -/

/-- All of the feature tile. -/
abbrev pF : Rect S2000x512 := Rect.unit (s := S2000x512) ![0, 0] S2000x512.size inb_S2000x512_S2000x512_0_0
/-- All of the dense layer's weights. -/
abbrev pD : Rect S512x128 := Rect.unit (s := S512x128) ![0, 0] S512x128.size inb_S512x128_S512x128_0_0
/-- All of the dense layer's bias row. -/
abbrev pBd : Rect S1x128 := Rect.unit (s := S1x128) ![0, 0] S1x128.size inb_S1x128_S1x128_0_0
/-- The first edge type's weights. -/
abbrev pW0 : Rect S2x128x64 := Rect.unit (s := S2x128x64) ![0, 0, 0] S1x128x64.size inb_S2x128x64_S1x128x64_0_0_0
/-- The second edge type's weights. -/
abbrev pW1 : Rect S2x128x64 := Rect.unit (s := S2x128x64) ![1, 0, 0] S1x128x64.size inb_S2x128x64_S1x128x64_1_0_0
/-- The first edge type's slab of the tile of transformed nodes. -/
abbrev pX0 : Rect S2x2000x64 := Rect.unit (s := S2x2000x64) ![0, 0, 0] S1x2000x64.size inb_S2x2000x64_S1x2000x64_0_0_0
/-- The second edge type's slab of the tile of transformed nodes. -/
abbrev pX1 : Rect S2x2000x64 := Rect.unit (s := S2x2000x64) ![1, 0, 0] S1x2000x64.size inb_S2x2000x64_S1x2000x64_1_0_0
/-- All of the root weights. -/
abbrev pRw : Rect S128x64 := Rect.unit (s := S128x64) ![0, 0] S128x64.size inb_S128x64_S128x64_0_0
/-- All of the bias row. -/
abbrev pB0 : Rect S1x64 := Rect.unit (s := S1x64) ![0, 0] S1x64.size inb_S1x64_S1x64_0_0
/-- All of the root term's tile. -/
abbrev pR : Rect S2000x64 := Rect.unit (s := S2000x64) ![0, 0] S2000x64.size inb_S2000x64_S2000x64_0_0

/-- A row tile's transformed nodes, one slice for each edge type. -/
def preX (x0 : Vec F S2000x512 .f32) (x1 : Vec F S512x128 .f32) (x2 : Vec F S1x128 .f32) (x3 : Vec F S2x128x64 .f32) : Vec F S2x2000x64 .bf16 :=
  View.canon [⟨pX1, k0_pay4 (View.ld x0 pF) (View.ld x1 pD) (View.ld x2 pBd) (View.ld x3 pW1)⟩,
    ⟨pX0, k0_pay3 (View.ld x0 pF) (View.ld x1 pD) (View.ld x2 pBd) (View.ld x3 pW0)⟩]

/-- A row tile's root term. -/
def preR (x0 : Vec F S2000x512 .f32) (x1 : Vec F S512x128 .f32) (x2 : Vec F S1x128 .f32) (x4 : Vec F S128x64 .f32) (x5 : Vec F S1x64 .f32) : Vec F S2000x64 .f32 :=
  View.canon [⟨pR, k0_pay1 (k0_pay2 (View.ld x0 pF) (View.ld x1 pD) (View.ld x2 pBd)) (View.ld x4 pRw) (View.ld x5 pB0)⟩]

set_option maxHeartbeats 2000000 in
/-- The body of the first call: from the six operands' blocks it leaves the tile's transformed nodes and root term. -/
theorem triple_pre (c : Dev nD) (E : Set ℕ) (i : grid0.Coords)
  (arg1 : Memref sig .tc .vmem S2000x512 .f32) (harg1 : arg1.IsWhole)
  (arg2 : Memref sig .tc .vmem S512x128 .f32) (harg2 : arg2.IsWhole)
  (arg3 : Memref sig .tc .vmem S1x128 .f32) (harg3 : arg3.IsWhole)
  (arg4 : Memref sig .tc .vmem S2x128x64 .f32) (harg4 : arg4.IsWhole)
  (arg5 : Memref sig .tc .vmem S128x64 .f32) (harg5 : arg5.IsWhole)
  (arg6 : Memref sig .tc .vmem S1x64 .f32) (harg6 : arg6.IsWhole)
  (arg7 : Memref sig .tc .vmem S2x2000x64 .bf16) (harg7 : arg7.IsWhole)
  (arg8 : Memref sig .tc .vmem S2000x64 .f32) (harg8 : arg8.IsWhole)
    (x0 : Vec F S2000x512 .f32) (x1 : Vec F S512x128 .f32) (x2 : Vec F S1x128 .f32) (x3 : Vec F S2x128x64 .f32) (x4 : Vec F S128x64 .f32) (x5 : Vec F S1x64 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (preX x0 x1 x2 x3)
        ∗ owns (c : Thread nD τ) arg8 fullShare (preR x0 x1 x2 x4 x5)) -∗ K ⟨⟩))
      ⊢ wp frame (wpE (defs₀ (F := F)) Variants.none c none) E (cc0__pre_kernel i arg1 harg1 arg2 harg2 arg3 harg3 arg4 harg4 arg5 harg5 arg6 harg6 arg7 harg7 arg8 harg8) K := by
  simp only [cc0__pre_kernel_eq_skeleton]; unfold cc0__pre_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]; · iapply (owned_back c _ _ _ rfl); iexact H0
  isplitl [H1]; · iapply (owned_back c _ _ _ rfl); iexact H1
  isplitl [H2]; · iapply (owned_back c _ _ _ rfl); iexact H2
  isplitl [H3]; · iapply (owned_back c _ _ _ rfl); iexact H3
  isplitl [H4]; · iapply (owned_back c _ _ _ rfl); iexact H4
  isplitl [H5]; · iapply (owned_back c _ _ _ rfl); iexact H5
  isplitl [H6]
  · iapply (owned_back c _ _ _ (View.read_writes_eq_canon _ _ _ (View.cover_of_tiled [⟨pX1, _⟩, ⟨pX0, _⟩] S1x2000x64.size (by rfl)))); iexact H6
  iapply (owned_back c _ _ _ (View.read_writes_eq_canon _ _ _ (View.cover_of_tiled [⟨pR, _⟩] S2000x64.size (by rfl)))); iexact H7

variable (V : (c : Dev nD) → (b : Ref sig .tc) → Buf (Elt F) ((c : Thread nD τ).loc b))

/-! ## The pipeline's proof data -/

/-- Window `w`'s block at point `t`, read off its array as the first call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A row tile's transformed nodes and root term, from the blocks at point `t`. -/
def tileX (c : Dev nD) (t : Fin cfg0.N) : Vec F S2x2000x64 .bf16 := preX (blk0 V c 0 t) (blk0 V c 1 t) (blk0 V c 2 t) (blk0 V c 3 t)
/-- The root term's tile at point `t`. -/
def tileR (c : Dev nD) (t : Fin cfg0.N) : Vec F S2000x64 .f32 := preR (blk0 V c 0 t) (blk0 V c 1 t) (blk0 V c 2 t) (blk0 V c 4 t) (blk0 V c 5 t)

/-- The first call's proof data on core `c`: the arrays as it finds them; after each point every input's buffer at its
    block and the outputs' at the tile's results; the buffers it does not use beside; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => tileX V c t
    | ⟨7, _⟩ => tileR V c t
  Φ _ := Pipeline.scopedRest (Ix := Unit) (Name := ℕ) (U := UR sig nD τ) (Lvl := ℕ) (Val := Elt F) spec0 c
  q _ := fullShare
  owed _ := 0

/-- The arrays are as the call finds them. -/
theorem dat0_A (c : Dev nD) (w : Fin cfg0.W) : (dat0 V c).A w = V c (Pipeline.arrRef spec0 w) := by dsimp only [dat0]

/-! What each point leaves in a window's buffer, and what an input's buffer holds when the body runs: its block. -/

/-- The staging buffer of the feature tile after the body. -/
theorem after0_0 (c : Dev nD) (t : Fin cfg0.N) : (dat0 V c).after 0 t = blk0 V c 0 t := by dsimp only [dat0]
/-- The staging buffer of the dense layer's weights after the body. -/
theorem after0_1 (c : Dev nD) (t : Fin cfg0.N) : (dat0 V c).after 1 t = blk0 V c 1 t := by dsimp only [dat0]
/-- The staging buffer of the dense layer's bias row after the body. -/
theorem after0_2 (c : Dev nD) (t : Fin cfg0.N) : (dat0 V c).after 2 t = blk0 V c 2 t := by dsimp only [dat0]
/-- The staging buffer of the first convolution's weights after the body. -/
theorem after0_3 (c : Dev nD) (t : Fin cfg0.N) : (dat0 V c).after 3 t = blk0 V c 3 t := by dsimp only [dat0]
/-- The staging buffer of the first convolution's root weights after the body. -/
theorem after0_4 (c : Dev nD) (t : Fin cfg0.N) : (dat0 V c).after 4 t = blk0 V c 4 t := by dsimp only [dat0]
/-- The staging buffer of the first convolution's bias row after the body. -/
theorem after0_5 (c : Dev nD) (t : Fin cfg0.N) : (dat0 V c).after 5 t = blk0 V c 5 t := by dsimp only [dat0]
/-- The staging buffer of the tile of transformed nodes after the body. -/
theorem after0_6 (c : Dev nD) (t : Fin cfg0.N) : (dat0 V c).after 6 t = tileX V c t := by dsimp only [dat0]
/-- The staging buffer of the tile of the root term after the body. -/
theorem after0_7 (c : Dev nD) (t : Fin cfg0.N) : (dat0 V c).after 7 t = tileR V c t := by dsimp only [dat0]

/-- The staging buffer of the feature tile before the body. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]) t d).trans
    (by unfold Dat.fetched Dat.blockOf blk0; rw [dat0_A]; rfl)

/-- The staging buffer of the dense layer's weights before the body. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]) t d).trans
    (by unfold Dat.fetched Dat.blockOf blk0; rw [dat0_A]; rfl)

/-- The staging buffer of the dense layer's bias row before the body. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]) t d).trans
    (by unfold Dat.fetched Dat.blockOf blk0; rw [dat0_A]; rfl)

/-- The staging buffer of the first convolution's weights before the body. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [dat0_A]) t d).trans
    (by unfold Dat.fetched Dat.blockOf blk0; rw [dat0_A]; rfl)

/-- The staging buffer of the first convolution's root weights before the body. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [dat0_A]) t d).trans
    (by unfold Dat.fetched Dat.blockOf blk0; rw [dat0_A]; rfl)

/-- The staging buffer of the first convolution's bias row before the body. -/
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [dat0_A]) t d).trans
    (by unfold Dat.fetched Dat.blockOf blk0; rw [dat0_A]; rfl)

/-! ## The body obligation -/

/-- What the body is given at point `t`, and what it hands back. -/
def bodyPre0 (c : Dev nD) (t : Fin cfg0.N) : sProp 𝕄 :=
  iprop((dat0 V c).Φ t.castSucc
      ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d)))

/-- What the body of the first call leaves. -/
def bodyPost0 (c : Dev nD) (t : Fin cfg0.N) : sProp 𝕄 :=
  iprop((dat0 V c).Φ t.succ
      ∗ (dat0 V c).owesAt () t.succ
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t)
      ∗ owns (c : Thread nD τ) (st0_4 t) fullShare ((dat0 V c).after 4 t)
      ∗ owns (c : Thread nD τ) (st0_5 t) fullShare ((dat0 V c).after 5 t)
      ∗ owns (c : Thread nD τ) (st0_6 t) fullShare ((dat0 V c).after 6 t)
      ∗ owns (c : Thread nD τ) (st0_7 t) fullShare ((dat0 V c).after 7 t))

/-- The body at any point. -/
theorem body_pre (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl, show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (triple_pre c Set.univ (grid0.coords t) _ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The first call's kernel in the program's function table is the body at the point. -/
theorem row0 (t : Fin cfg0.N) : (defs₀ (F := F)) .tc cfg0.body (cfg0.bodyArgs t (cfg0.slots t)) = bodyAt0 t := by
  unfold defs₀; rw [Defs.onTc_tc]

/-- The first call's body obligation. -/
theorem obligation0 (c : Dev nD) : BodyObligation (dat0 (F := F) V c) (defs₀ (F := F)) Variants.none () Set.univ := fun t => by
  rw [bigSep_W0, bigSep_W0, row0]
  exact triple_restated (body_pre V c t) rfl .rfl fun _ => .rfl

end Cert.Proof

end

end
-- ==== Proof.FggRegion.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.FggState
public import Idealize.ShloMosaic.Lib.Pipeline.FrameBody
public import Idealize.ShloMosaic.Lib.Pipeline.Regions
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local instance] Cert.KernelIdeal.Gen.facts

variable (V : (c : Dev nD) → (b : Ref sig .tc) → Buf (Elt F) ((c : Thread nD τ).loc b))

/-! ## The windows' blocks -/

/-- Window `w`'s block at point `t`, read off its array as the second call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point of the grid. -/
abbrev pt1 : Fin cfg1.N := ptOf 0 0 0

/-- The adjacency blocks, point by point. -/
abbrev adj (c : Dev nD) : Fin grid1.N → Vec F S1x400x10000 .f32 := fun t => blk1 V c 0 t
/-- The operands that stay whole through the call. -/
abbrev opX (c : Dev nD) : Vec F S2x10000x64 .bf16 := blk1 V c 1 pt1
/-- The root term, an operand that stays whole. -/
abbrev opXr (c : Dev nD) : Vec F S10000x64 .f32 := blk1 V c 2 pt1
/-- The batch norm's scale row, an operand that stays whole. -/
abbrev opG (c : Dev nD) : Vec F S1x64 .f32 := blk1 V c 3 pt1
/-- The batch norm's shift row, an operand that stays whole. -/
abbrev opBe (c : Dev nD) : Vec F S1x64 .f32 := blk1 V c 4 pt1
/-- The second convolution's weights, an operand that stays whole. -/
abbrev opW1 (c : Dev nD) : Vec F S2x64x32 .f32 := blk1 V c 5 pt1
/-- The second convolution's root weights, an operand that stays whole. -/
abbrev opR1 (c : Dev nD) : Vec F S64x32 .f32 := blk1 V c 6 pt1
/-- The second convolution's bias row, an operand that stays whole. -/
abbrev opB1 (c : Dev nD) : Vec F S1x32 .f32 := blk1 V c 7 pt1

/-- A window whose block never moves has the same block at every point. -/
theorem blk1_1 (c : Dev nD) (t : Fin cfg1.N) : blk1 V c 1 t = opX V c := rfl
/-- The block of the root term is the same at every point. -/
theorem blk1_2 (c : Dev nD) (t : Fin cfg1.N) : blk1 V c 2 t = opXr V c := rfl
/-- The block of the batch norm's scale row is the same at every point. -/
theorem blk1_3 (c : Dev nD) (t : Fin cfg1.N) : blk1 V c 3 t = opG V c := rfl
/-- The block of the batch norm's shift row is the same at every point. -/
theorem blk1_4 (c : Dev nD) (t : Fin cfg1.N) : blk1 V c 4 t = opBe V c := rfl
/-- The block of the second convolution's weights is the same at every point. -/
theorem blk1_5 (c : Dev nD) (t : Fin cfg1.N) : blk1 V c 5 t = opW1 V c := rfl
/-- The block of the second convolution's root weights is the same at every point. -/
theorem blk1_6 (c : Dev nD) (t : Fin cfg1.N) : blk1 V c 6 t = opR1 V c := rfl
/-- The block of the second convolution's bias row is the same at every point. -/
theorem blk1_7 (c : Dev nD) (t : Fin cfg1.N) : blk1 V c 7 t = opB1 V c := rfl

/-- The scratch state of the call after `n` points. -/
abbrev St1 (c : Dev nD) (n : ℕ) := St (adj V c) (opX V c) (opXr V c) (opG V c) (opBe V c) (opW1 V c) (opR1 V c) (opB1 V c) n

/-- The output block's contents after the first and after the second edge type of the second sweep. -/
abbrev out0 (c : Dev nD) (b : Fin 25) : Vec F S400x32 .f32 := outA (adj V c) (opX V c) (opXr V c) (opG V c) (opBe V c) (opW1 V c) (opR1 V c) (opB1 V c) b
/-- The output block's contents after the second edge type of the second sweep. -/
abbrev out1 (c : Dev nD) (b : Fin 25) : Vec F S400x32 .f32 := outB (adj V c) (opX V c) (opXr V c) (opG V c) (opBe V c) (opW1 V c) (opR1 V c) (opB1 V c) b

/-- The output block after point `t`: zeros in the first sweep, then the two stages of the result. -/
def res (c : Dev nD) (t : Fin cfg1.N) : Vec F S400x32 .f32 :=
  if t.val < 50 then k1_pay3
  else if t.val % 2 = 0 then out0 V c ⟨t.val % 50 / 2, by omega⟩
  else out1 V c ⟨t.val % 50 / 2, by omega⟩

/-! ## The invariant -/

/-- The first call's staging buffers, each held at something. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- Before point `n`: the scratch buffers at contents in the state of `n` points. -/
def Inv1 (c : Dev nD) (n : ℕ) : sProp 𝕄 :=
  iprop((∃ h y r, ⌜St1 V c n h y r⌝ ∗ owns (c : Thread nD τ) (Memref.whole cc1_scratch0) fullShare h
      ∗ owns (c : Thread nD τ) (Memref.whole cc1_scratch1) fullShare y ∗ owns (c : Thread nD τ) (Memref.whole cc1_scratch2) fullShare r)
    ∗ others (F := F) c)

/-- The invariant holds at the start, the scratch buffers at anything. -/
theorem Inv1_start (c : Dev nD) :
    Pipeline.scopedRest (Ix := Unit) (Name := ℕ) (U := UR sig nD τ) (Lvl := ℕ) (Val := Elt F) spec1 c ⊢ Inv1 V c 0 := by
  rw [scopedRest1_eq]
  unfold Inv1 others
  simp only [owns_whole]
  iintro ⟨B0, B1, B2, B3, B4, B5, B6, B7, B8, B9, B10, ⟨%h, Hh⟩, ⟨%y, Hy⟩, ⟨%r, Hr⟩⟩
  isplitl [Hh Hy Hr]
  · iexists h; iexists y; iexists r
    isplitr; · ipureintro; exact St_zero _ _ _ _ _ _ _ _ _ _ _
    isplitl [Hh]; · iexact Hh
    isplitl [Hy]; · iexact Hy
    iexact Hr
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact B10

/-- The invariant gives the buffers back at the end. -/
theorem Inv1_end (c : Dev nD) (n : ℕ) :
    Inv1 V c n ⊢ Pipeline.scopedRest (Ix := Unit) (Name := ℕ) (U := UR sig nD τ) (Lvl := ℕ) (Val := Elt F) spec1 c := by
  rw [scopedRest1_eq]
  unfold Inv1 others
  simp only [owns_whole]
  iintro ⟨⟨%h, %y, %r, -, Hh, Hy, Hr⟩, B0, B1, B2, B3, B4, B5, B6, B7, B8, B9, B10⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [Hh]; · iexists h; iexact Hh
  isplitl [Hy]; · iexists y; iexact Hy
  iexists r; iexact Hr

/-! ## The pipeline's proof data -/

/-- The second call's proof data on core `c`: the arrays as it finds them; after each point every input's buffer at
    its block and the output's at `res`; the invariant; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => res V c t
  Φ t := Inv1 V c t.val
  q _ := fullShare
  owed _ := 0

/-- The arrays are as the call finds them. -/
theorem dat1_A (c : Dev nD) (w : Fin cfg1.W) : (dat1 V c).A w = V c (Pipeline.arrRef spec1 w) := by dsimp only [dat1]

/-! What each point leaves in a window's buffer, and what an input's buffer holds when the body runs: its block. -/

/-- The staging buffer of the adjacency block after the body. -/
theorem after1_0 (c : Dev nD) (t : Fin cfg1.N) : (dat1 V c).after 0 t = blk1 V c 0 t := by dsimp only [dat1]
/-- The staging buffer of the transformed nodes after the body. -/
theorem after1_1 (c : Dev nD) (t : Fin cfg1.N) : (dat1 V c).after 1 t = blk1 V c 1 t := by dsimp only [dat1]
/-- The staging buffer of the root term after the body. -/
theorem after1_2 (c : Dev nD) (t : Fin cfg1.N) : (dat1 V c).after 2 t = blk1 V c 2 t := by dsimp only [dat1]
/-- The staging buffer of the batch norm's scale row after the body. -/
theorem after1_3 (c : Dev nD) (t : Fin cfg1.N) : (dat1 V c).after 3 t = blk1 V c 3 t := by dsimp only [dat1]
/-- The staging buffer of the batch norm's shift row after the body. -/
theorem after1_4 (c : Dev nD) (t : Fin cfg1.N) : (dat1 V c).after 4 t = blk1 V c 4 t := by dsimp only [dat1]
/-- The staging buffer of the second convolution's weights after the body. -/
theorem after1_5 (c : Dev nD) (t : Fin cfg1.N) : (dat1 V c).after 5 t = blk1 V c 5 t := by dsimp only [dat1]
/-- The staging buffer of the second convolution's root weights after the body. -/
theorem after1_6 (c : Dev nD) (t : Fin cfg1.N) : (dat1 V c).after 6 t = blk1 V c 6 t := by dsimp only [dat1]
/-- The staging buffer of the second convolution's bias row after the body. -/
theorem after1_7 (c : Dev nD) (t : Fin cfg1.N) : (dat1 V c).after 7 t = blk1 V c 7 t := by dsimp only [dat1]
/-- The staging buffer of the result block after the body. -/
theorem after1_8 (c : Dev nD) (t : Fin cfg1.N) : (dat1 V c).after 8 t = res V c t := by dsimp only [dat1]

/-- The staging buffer of the adjacency block before the body. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]) t d).trans
    (by unfold Dat.fetched Dat.blockOf blk1; rw [dat1_A]; rfl)

/-- The staging buffer of the transformed nodes before the body. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]) t d).trans
    (by unfold Dat.fetched Dat.blockOf blk1; rw [dat1_A]; rfl)

/-- The staging buffer of the root term before the body. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [dat1_A]) t d).trans
    (by unfold Dat.fetched Dat.blockOf blk1; rw [dat1_A]; rfl)

/-- The staging buffer of the batch norm's scale row before the body. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [dat1_A]) t d).trans
    (by unfold Dat.fetched Dat.blockOf blk1; rw [dat1_A]; rfl)

/-- The staging buffer of the batch norm's shift row before the body. -/
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [dat1_A]) t d).trans
    (by unfold Dat.fetched Dat.blockOf blk1; rw [dat1_A]; rfl)

/-- The staging buffer of the second convolution's weights before the body. -/
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [dat1_A]) t d).trans
    (by unfold Dat.fetched Dat.blockOf blk1; rw [dat1_A]; rfl)

/-- The staging buffer of the second convolution's root weights before the body. -/
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [dat1_A]) t d).trans
    (by unfold Dat.fetched Dat.blockOf blk1; rw [dat1_A]; rfl)

/-- The staging buffer of the second convolution's bias row before the body. -/
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [dat1_A]) t d).trans
    (by unfold Dat.fetched Dat.blockOf blk1; rw [dat1_A]; rfl)

/-- `res` at each kind of point. -/
theorem res_zero (c : Dev nD) (b : Fin 25) (e : Fin 2) : res V c (ptOf 0 b e) = k1_pay3 := by
  have hp : (ptOf 0 b e).val < 50 := by simp only [ptOf]; omega
  exact if_pos hp

/-- The output block after the first edge type of the second sweep. -/
theorem res_out0 (c : Dev nD) (b : Fin 25) : res V c (ptOf 1 b 0) = out0 V c b := by
  have hp : (ptOf 1 b 0).val = 50 + 2 * b.val := by simp [ptOf]
  unfold res
  rw [if_neg (by omega), if_pos (by omega)]
  congr 1
  exact Fin.ext (by simp only [hp]; omega)

/-- The output block after the second edge type of the second sweep. -/
theorem res_out1 (c : Dev nD) (b : Fin 25) : res V c (ptOf 1 b 1) = out1 V c b := by
  have hp : (ptOf 1 b 1).val = 50 + 2 * b.val + 1 := by simp [ptOf]
  unfold res
  rw [if_neg (by omega), if_neg (by omega)]
  congr 1
  exact Fin.ext (by simp only [hp]; omega)

/-- What the output buffer holds at the second edge type of the second sweep: what the first left there. -/
theorem before1_8 (c : Dev nD) (b : Fin 25) (d) : (dat1 V c).before 8 (ptOf 1 b 1) d = out0 V c b := by
  have hp : (ptOf 1 b 1).val = 50 + 2 * b.val + 1 := by simp [ptOf]
  have hq : (⟨(ptOf 1 b 1).val - 1, lt_of_le_of_lt (Nat.sub_le _ _) (ptOf 1 b 1).isLt⟩ : Fin cfg1.N) = ptOf 1 b 0 :=
    Fin.ext (by simp only [ptOf] at hp ⊢; omega)
  have hn : (cfg1.win 8).flush (ptOf 1 b 0) = false := by
    rw [Bool.eq_false_iff]; intro e
    have := (flush1_8 _).mp e
    simp only [ptOf] at this; omega
  have hidle : cfg1.idle 8 (cfg1.grid.coords (ptOf 1 b 0)) = false := by revert b; decide +kernel
  rw [(dat1 V c).before_of_pos 8 (ptOf 1 b 1) (by omega) ((cfg1.win 8).fetch_out rfl _) d, hq, hn, if_neg Bool.false_ne_true]
  unfold Dat.left
  rw [hidle]
  unfold Dat.kept
  rw [after1_8]
  dsimp only
  rw [Pipeline.fill_of_clip_none (cfg := cfg1) 8 _ (fun _ => rfl) d (res V c (ptOf 1 b 0)), Window.fill_cut]
  exact res_out0 V c b

/-! ## The body at each kind of point -/

/-- What the body is given at point `t`. -/
def bodyPre1 (c : Dev nD) (t : Fin cfg1.N) : sProp 𝕄 :=
  iprop(Inv1 V c t.val
      ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d)))

/-- What it hands back, `O` for the output's buffer. -/
def bodyPost1 (c : Dev nD) (t : Fin cfg1.N) (O : sProp 𝕄) : sProp 𝕄 :=
  iprop(Inv1 V c (t.val + 1)
      ∗ (dat1 V c).owesAt () t.castSucc
      ∗ owns (c : Thread nD τ) (st1_0 t) fullShare (blk1 V c 0 t)
      ∗ owns (c : Thread nD τ) (st1_1 t) fullShare (blk1 V c 1 t)
      ∗ owns (c : Thread nD τ) (st1_2 t) fullShare (blk1 V c 2 t)
      ∗ owns (c : Thread nD τ) (st1_3 t) fullShare (blk1 V c 3 t)
      ∗ owns (c : Thread nD τ) (st1_4 t) fullShare (blk1 V c 4 t)
      ∗ owns (c : Thread nD τ) (st1_5 t) fullShare (blk1 V c 5 t)
      ∗ owns (c : Thread nD τ) (st1_6 t) fullShare (blk1 V c 6 t)
      ∗ owns (c : Thread nD τ) (st1_7 t) fullShare (blk1 V c 7 t)
      ∗ O)

/-- The first sweep at edge type 0: one row block of the hidden layer is begun; the output's buffer is left alone. -/
theorem body_first (c : Dev nD) (b : Fin 25) :
    bodyPre1 V c (ptOf 0 b 0) ⊢ wp frame (wpE (defs₀ (F := F)) Variants.none c none) Set.univ (bodyAt1 (ptOf 0 b 0)) (fun _ => bodyPost1 V c (ptOf 0 b 0) (iprop(∃ d, owns (c : Thread nD τ) (st1_8 (ptOf 0 b 0)) fullShare ((dat1 V c).before 8 (ptOf 0 b 0) d)))) := by
  obtain ⟨h1, h2, h3, h4, h5⟩ := conds_first b
  have hp : (ptOf 0 b 0).val = 2 * b.val := by simp [ptOf]
  unfold bodyPre1 bodyPost1 bodyAt1 Inv1
  simp only [before1_0, before1_1, before1_2, before1_3, before1_4, before1_5, before1_6, before1_7]
  iintro ⟨⟨⟨%h, %y, %r, %hs, Hh, Hy, Hr⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (triple_first c Set.univ (grid1.coords (ptOf 0 b 0)) _ _ _ _ _ _ _ _ _ _ _ _ _ _ _ _ _ _ _ _ _ _ _ _ h1 h2 h3 h4 h5 (blk1 V c 0 (ptOf 0 b 0)) (blk1 V c 1 (ptOf 0 b 0)) (blk1 V c 2 (ptOf 0 b 0)) h _)
  rw [ld_congr (off1_eq b) _ (rowsH_inb b), overlay_congr (off1_eq b) _ (rowsH_inb b)]
  isplitl [H0]; · iexact H0
  isplitl [H1]; · iexact H1
  isplitl [H2]; · iexact H2
  isplitl [Hh]; · iexact Hh
  iintro ⟨H0, H1, H2, Hh⟩
  isplitl [Hh Hy Hr Hrest]
  · isplitr [Hrest]
    · iexists _; iexists y; iexists r
      isplitr; · ipureintro; rw [hp] at hs ⊢; exact St_first _ _ _ _ _ _ _ _ b hs
      isplitl [Hh]; · iexact Hh
      isplitl [Hy]; · iexact Hy
      iexact Hr
    · iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The first sweep at edge type 1: the row block is completed and the output's buffer set to zeros. -/
theorem body_second (c : Dev nD) (b : Fin 25) :
    bodyPre1 V c (ptOf 0 b 1) ⊢ wp frame (wpE (defs₀ (F := F)) Variants.none c none) Set.univ (bodyAt1 (ptOf 0 b 1)) (fun _ => bodyPost1 V c (ptOf 0 b 1) (owns (c : Thread nD τ) (st1_8 (ptOf 0 b 1)) fullShare (res V c (ptOf 0 b 1)))) := by
  obtain ⟨h1, h2, h3, h4, h5⟩ := conds_second b
  have hp : (ptOf 0 b 1).val = 2 * b.val + 1 := by simp [ptOf]
  unfold bodyPre1 bodyPost1 bodyAt1 Inv1
  simp only [before1_0, before1_1, before1_2, before1_3, before1_4, before1_5, before1_6, before1_7]
  iintro ⟨⟨⟨%h, %y, %r, %hs, Hh, Hy, Hr⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (triple_second c Set.univ (grid1.coords (ptOf 0 b 1)) _ _ _ _ _ _ _ _ _ _ _ _ _ _ _ _ _ _ _ _ _ _ _ _ h1 h2 h3 h4 h5 (blk1 V c 0 (ptOf 0 b 1)) (blk1 V c 1 (ptOf 0 b 1)) h _)
  rw [ld_congr (off2_eq b) _ (rowsH_inb b), overlay_congr (off2_eq b) _ (rowsH_inb b), canon_rO, res_zero]
  isplitl [H0]; · iexact H0
  isplitl [H1]; · iexact H1
  isplitl [H8]; · iexists _; iexact H8
  isplitl [Hh]; · iexact Hh
  iintro ⟨H0, H1, H8, Hh⟩
  isplitl [Hh Hy Hr Hrest]
  · isplitr [Hrest]
    · iexists _; iexists y; iexists r
      isplitr; · ipureintro; rw [hp] at hs ⊢; exact St_second _ _ _ _ _ _ _ _ b hs
      isplitl [Hh]; · iexact Hh
      isplitl [Hy]; · iexact Hy
      iexact Hr
    · iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The second sweep's first point: the second layer's operands are formed and the first row block begun. -/
theorem body_mid (c : Dev nD) :
    bodyPre1 V c (ptOf 1 0 0) ⊢ wp frame (wpE (defs₀ (F := F)) Variants.none c none) Set.univ (bodyAt1 (ptOf 1 0 0)) (fun _ => bodyPost1 V c (ptOf 1 0 0) (owns (c : Thread nD τ) (st1_8 (ptOf 1 0 0)) fullShare (res V c (ptOf 1 0 0)))) := by
  obtain ⟨h1, h2, h3, h4, h5⟩ := conds_third 0
  have hp : (ptOf 1 0 0).val = 50 := by simp [ptOf]
  unfold bodyPre1 bodyPost1 bodyAt1 Inv1
  simp only [before1_0, before1_1, before1_2, before1_3, before1_4, before1_5, before1_6, before1_7]
  iintro ⟨⟨⟨%h, %y, %r, %hs, Hh, Hy, Hr⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [hp] at hs
  have hh := St_hid _ _ _ _ _ _ _ _ (le_refl _) hs
  iapply (triple_mid c Set.univ (grid1.coords (ptOf 1 0 0)) _ _ _ _ _ _ _ _ _ _ _ _ _ _ _ _ _ _ _ _ _ _ _ _ h1 h2 (h3.mpr rfl) h4 h5 (blk1 V c 0 (ptOf 1 0 0)) (blk1 V c 3 (ptOf 1 0 0)) (blk1 V c 4 (ptOf 1 0 0)) (blk1 V c 5 (ptOf 1 0 0)) (blk1 V c 6 (ptOf 1 0 0)) (blk1 V c 7 (ptOf 1 0 0)) h _)
  rw [ld_congr (off3_eq 0) _ (rowsO_inb 0), canon_rO, res_out0]
  isplitl [H0]; · iexact H0
  isplitl [H3]; · iexact H3
  isplitl [H4]; · iexact H4
  isplitl [H5]; · iexact H5
  isplitl [H6]; · iexact H6
  isplitl [H7]; · iexact H7
  isplitl [Hh]; · iexact Hh
  isplitl [H8]; · iexists _; iexact H8
  isplitl [Hy]; · iexists _; iexact Hy
  isplitl [Hr]; · iexists _; iexact Hr
  iintro ⟨H0, H3, H4, H5, H6, H7, Hh, H8, Hy, Hr⟩
  isplitl [Hh Hy Hr Hrest]
  · isplitr [Hrest]
    · iexists _; iexists _; iexists _
      isplitr; · ipureintro; rw [hp]; exact St_mid _ _ _ _ _ _ _ _ hs
      isplitl [Hh]; · iexact Hh
      isplitl [Hy]; · iexact Hy
      iexact Hr
    · iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  subst hh; iexact H8

/-- The second sweep at edge type 0 past the first row block. -/
theorem body_third (c : Dev nD) (b : Fin 25) (hb : b ≠ 0) :
    bodyPre1 V c (ptOf 1 b 0) ⊢ wp frame (wpE (defs₀ (F := F)) Variants.none c none) Set.univ (bodyAt1 (ptOf 1 b 0)) (fun _ => bodyPost1 V c (ptOf 1 b 0) (owns (c : Thread nD τ) (st1_8 (ptOf 1 b 0)) fullShare (res V c (ptOf 1 b 0)))) := by
  obtain ⟨h1, h2, h3, h4, h5⟩ := conds_third b
  have hp : 50 < (ptOf 1 b 0).val := by
    have : b.val ≠ 0 := fun e => hb (Fin.ext e)
    simp [ptOf]; omega
  unfold bodyPre1 bodyPost1 bodyAt1 Inv1
  simp only [before1_0, before1_1, before1_2, before1_3, before1_4, before1_5, before1_6, before1_7]
  iintro ⟨⟨⟨%h, %y, %r, %hs, Hh, Hy, Hr⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs.2.2 hp
  iapply (triple_third c Set.univ (grid1.coords (ptOf 1 b 0)) _ _ _ _ _ _ _ _ _ _ _ _ _ _ _ _ _ _ _ _ _ _ _ _ h1 h2 (fun e => hb (h3.mp e)) h4 h5 (blk1 V c 0 (ptOf 1 b 0)) (nextX (hid (adj V c) (opX V c) (opXr V c)) (opG V c) (opBe V c) (opW1 V c)) (nextR (hid (adj V c) (opX V c) (opXr V c)) (opG V c) (opBe V c) (opR1 V c) (opB1 V c)) _)
  rw [ld_congr (off3_eq b) _ (rowsO_inb b), canon_rO, res_out0]
  isplitl [H0]; · iexact H0
  isplitl [H8]; · iexists _; iexact H8
  isplitl [Hy]; · iexact Hy
  isplitl [Hr]; · iexact Hr
  iintro ⟨H0, H8, Hy, Hr⟩
  isplitl [Hh Hy Hr Hrest]
  · isplitr [Hrest]
    · iexists h; iexists _; iexists _
      isplitr; · ipureintro; exact St_rest _ _ _ _ _ _ _ _ hp hs
      isplitl [Hh]; · iexact Hh
      isplitl [Hy]; · iexact Hy
      iexact Hr
    · iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The second sweep at edge type 1: the row block is completed. -/
theorem body_fourth (c : Dev nD) (b : Fin 25) :
    bodyPre1 V c (ptOf 1 b 1) ⊢ wp frame (wpE (defs₀ (F := F)) Variants.none c none) Set.univ (bodyAt1 (ptOf 1 b 1)) (fun _ => bodyPost1 V c (ptOf 1 b 1) (owns (c : Thread nD τ) (st1_8 (ptOf 1 b 1)) fullShare (res V c (ptOf 1 b 1)))) := by
  obtain ⟨h1, h2, h3, h4, h5⟩ := conds_fourth b
  have hp : 50 < (ptOf 1 b 1).val := by simp [ptOf]; omega
  unfold bodyPre1 bodyPost1 bodyAt1 Inv1
  simp only [before1_0, before1_1, before1_2, before1_3, before1_4, before1_5, before1_6, before1_7, before1_8]
  iintro ⟨⟨⟨%h, %y, %r, %hs, Hh, Hy, Hr⟩, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hs.2.2 hp
  iapply (triple_fourth c Set.univ (grid1.coords (ptOf 1 b 1)) _ _ _ _ _ _ _ _ _ _ _ _ _ _ _ _ _ _ _ _ _ _ _ _ h1 h2 h3 h4 h5 (blk1 V c 0 (ptOf 1 b 1)) (out0 V c b) (nextX (hid (adj V c) (opX V c) (opXr V c)) (opG V c) (opBe V c) (opW1 V c)) _)
  rw [canon_rO, ld_rO, res_out1]
  isplitl [H0]; · iexact H0
  isplitl [H8]; · iexact H8
  isplitl [Hy]; · iexact Hy
  iintro ⟨H0, H8, Hy⟩
  isplitl [Hh Hy Hr Hrest]
  · isplitr [Hrest]
    · iexists h; iexists _; iexists _
      isplitr; · ipureintro; exact St_rest _ _ _ _ _ _ _ _ hp hs
      isplitl [Hh]; · iexact Hh
      isplitl [Hy]; · iexact Hy
      iexact Hr
    · iexact Hrest
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The body obligation -/

/-- The second call's kernel in the program's function table is the body at the point. -/
theorem row1 (t : Fin cfg1.N) : (defs₀ (F := F)) .tc cfg1.body (cfg1.bodyArgs t (cfg1.slots t)) = bodyAt1 t := by
  unfold defs₀; rw [Defs.onTc_tc]

/-- The output window is idle exactly at the first sweep's points of edge type 0. -/
theorem idle_first : ∀ b : Fin 25, cfg1.idle 8 (cfg1.grid.coords (ptOf 0 b 0)) = true := by decide +kernel
/-- The output window is not idle in the second stage of the first sweep. -/
theorem idle_second : ∀ b : Fin 25, cfg1.idle 8 (cfg1.grid.coords (ptOf 0 b 1)) = false := by decide +kernel
/-- The output window is not idle in the first stage of the second sweep. -/
theorem idle_third : ∀ b : Fin 25, cfg1.idle 8 (cfg1.grid.coords (ptOf 1 b 0)) = false := by decide +kernel
/-- The output window is not idle in the second stage of the second sweep. -/
theorem idle_fourth : ∀ b : Fin 25, cfg1.idle 8 (cfg1.grid.coords (ptOf 1 b 1)) = false := by decide +kernel

/-- At those points the output is not written back. -/
theorem noflush_first (b : Fin 25) : (cfg1.win 8).flush (ptOf 0 b 0) = false := by
  rw [Bool.eq_false_iff]; intro e
  have := (flush1_8 _).mp e
  simp only [ptOf] at this; omega

/-- A point's body takes what it is given to what the pipeline wants back. -/
theorem body_any (c : Dev nD) (t : Fin cfg1.N) :
    bodyPre1 V c t ⊢ wp frame (wpE (defs₀ (F := F)) Variants.none c none) Set.univ (bodyAt1 t) (fun _ => bodyPost1 V c t ((dat1 V c).leavesExact 8 t)) := by
  obtain ⟨l, b, e, rfl⟩ := exists_ptOf t
  match l, e with
  | 0, 0 => rw [(dat1 V c).leavesExact_idle 8 _ (idle_first b) (noflush_first b)]; exact body_first V c b
  | 0, 1 => unfold Dat.leavesExact; rw [idle_second b, after1_8]; exact body_second V c b
  | 1, 0 =>
    unfold Dat.leavesExact; rw [idle_third b, after1_8]
    by_cases hb : b = 0
    · subst hb; exact body_mid V c
    · exact body_third V c b hb
  | 1, 1 => unfold Dat.leavesExact; rw [idle_fourth b, after1_8]; exact body_fourth V c b

/-- The second call's body obligation. -/
theorem obligation1 (c : Dev nD) : BodyObligation (dat1 (F := F) V c) (defs₀ (F := F)) Variants.none () Set.univ := fun t => by
  rw [bigSep_W1, bigSep_W1, row1]
  refine triple_restated (body_any V c t) rfl .rfl fun _ => ?_
  unfold bodyPost1
  rw [← after1_0 V c t, ← after1_1 V c t, ← after1_2 V c t, ← after1_3 V c t, ← after1_4 V c t, ← after1_5 V c t, ← after1_6 V c t, ← after1_7 V c t]
  exact .rfl

end Cert.Proof

end

end
-- ==== Proof.Segments.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.PreRegion
public import proofs.«01_k».proof.Proof.FggRegion
public import Idealize.ShloMosaic.Lib.Pipeline.FrameBody
public import Idealize.ShloMosaic.Lib.Pipeline.Regions
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local instance] Cert.KernelIdeal.Gen.facts

variable (m : (ℓ : Loc nD τ sig) → Buf (Elt F) ℓ)

/-! ## The buffers' contents between the program's items -/

/-- What each call finds. -/
abbrev in0 (c : Dev nD) (b : Ref sig .tc) : Buf (Elt F) ((c : Thread nD τ).loc b) := V1 m c b

/-- What the first call leaves in its two arrays. -/
def preOutX (c : Dev nD) : Buf (Elt F) ((c : Thread nD τ).loc main_v2_0) := (dat0 (in0 m) c).arrAt 6 cfg0.N
/-- What the first call leaves in its second array. -/
def preOutR (c : Dev nD) : Buf (Elt F) ((c : Thread nD τ).loc main_v2_1) := (dat0 (in0 m) c).arrAt 7 cfg0.N

/-- The buffers after the first call, after the reshapes that follow it. -/
abbrev W2 (c : Dev nD) : Valuation τ sig (Elt F) := Function.update (Function.update (V1 m c) main_v2_0 (preOutX m c)) main_v2_1 (preOutR m c)
/-- The buffers after the reshapes between the calls. -/
abbrev W3 (c : Dev nD) : Valuation τ sig (Elt F) := StableHlo.after hostOps1 (W2 m c)
/-- What the second call finds. -/
abbrev in1 (c : Dev nD) (b : Ref sig .tc) : Buf (Elt F) ((c : Thread nD τ).loc b) := W3 m c b

/-- What the second call leaves in its array: the program's result. -/
def fggOut (c : Dev nD) : Buf (Elt F) ((c : Thread nD τ).loc main_v6) := (dat1 (in1 m) c).arrAt 8 cfg1.N
/-- The buffers at the end. -/
abbrev W4 (c : Dev nD) : Valuation τ sig (Elt F) := Function.update (W3 m c) main_v6 (fggOut m c)

/-- The contents the two calls leave, as the generated valuations take them. -/
def outs : Outs (F := F) := fun J r c => if J = 2 then W2 m c r else W4 m c r

/-- The generated contents after the first call are these. -/
theorem outs_2 (c : Dev nD) : V2 m (outs m) c = W2 m c := by
  have e0 : outs m 2 main_v2_0 c = preOutX m c := by
    unfold outs; rw [if_pos rfl]; unfold W2
    rw [Function.update_of_ne (StableHlo.devRef_ne_of_ne (by decide)), Function.update_self]
  have e1 : outs m 2 main_v2_1 c = preOutR m c := by
    unfold outs; rw [if_pos rfl]; unfold W2; rw [Function.update_self]
  unfold V2 W2
  rw [e0, e1]

/-- The generated contents after the reshapes are these. -/
theorem outs_3 (c : Dev nD) : V3 m (outs m) c = W3 m c := by
  unfold V3 W3; rw [outs_2]

/-- The generated contents at the end are these. -/
theorem outs_4 (c : Dev nD) : V4 m (outs m) c = W4 m c := by
  have e : outs m 4 main_v6 c = fggOut m c := by
    unfold outs; rw [if_neg (by decide)]; unfold W4; rw [Function.update_self]
  unfold V4 W4
  rw [outs_3, e]

/-! ## The calls as segments of the program -/

/-- The two pipelines' proof data. -/
def pdats : (p : Fin 2) → (c : Dev nD) → Dat τ (Elt F) Unit ℕ (UR sig nD τ) ℕ (cfgs p) c
  | ⟨0, _⟩ => fun c => dat0 (in0 m) c
  | ⟨1, _⟩ => fun c => dat1 (in1 m) c

/-- What rides along beside the unscoped buffers: the core's due, nothing owed. -/
abbrev due (_ : Fin 3) (c : Dev nD) : sProp 𝕄 := iprop(∃ W, owes (c : Thread nD τ) (0 : CellTallies nD τ sig Unit) W)

/-- No semaphore is given a level. -/
abbrev L : GSem nD τ sig → Finset Unit := fun _ => ∅
/-- Every level is zero. -/
abbrev lv : GSem nD τ sig → Unit → ℕ := fun _ _ => 0

/-- What the first call writes, at the valuation after it. -/
theorem out0_6 (c : Dev nD) : W2 m c main_v2_0 = preOutX m c := by
  unfold W2; rw [Function.update_of_ne (StableHlo.devRef_ne_of_ne (by decide)), Function.update_self]
/-- What the first call writes in its second array, at the valuation after it. -/
theorem out0_7 (c : Dev nD) : W2 m c main_v2_1 = preOutR m c := by
  unfold W2; rw [Function.update_self]
/-- What the second call writes, at the valuation after it. -/
theorem out1_8 (c : Dev nD) : W4 m c main_v6 = fggOut m c := by
  unfold W4; rw [Function.update_self]

/-- Past call 0 a buffer that is none of its outputs is as it was. -/
theorem keep0 (c : Dev nD) (b : Ref sig .tc) (h : b ≠ main_v2_0 ∧ b ≠ main_v2_1) : W2 m c b = V1 m c b := by
  unfold W2
  rw [Function.update_of_ne (StableHlo.devRef_ne_of_ne h.2), Function.update_of_ne (StableHlo.devRef_ne_of_ne h.1)]

set_option backward.isDefEq.respectTransparency.types false in
set_option maxHeartbeats 1000000 in
/-- Call 0 as a segment: entered with the unscoped buffers as it finds them, left with its outputs written. -/
def seg_call0 : Pipeline.RegionSeg (pcfgs (F := F)) adm (pdats m) () (defs₀ (F := F)) Variants.none L lv 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ L lv 0 fun _ _ => rfl
  pre c := iprop(unscopedBufs c (fun b => V1 m c b) ∗ due 0 c)
  post c := iprop(unscopedBufs c (fun b => W2 m c b) ∗ due 0 c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr
      · ipureintro; exact fun _ _ => Or.inl trivial
      iexact HO
    isplitr; · iempintro
    iexact Hrest
  hin c := by
    iintro ⟨-, -, H⟩
    iapply (show Pipeline.scopedRest (Ix := Unit) (Name := ℕ) (U := UR sig nD τ) (Lvl := ℕ) (Val := Elt F) spec0 c ⊢ (pdats m 0 c).Φ 0 from BI.Entails.refl _); iexact H
  hout c := by
    rw [Pipeline.ownSems0_none]
    iintro H
    isplitr; · iempintro
    isplitr; · iempintro
    iapply (show (pdats m 0 c).Φ (Fin.last _) ⊢ Pipeline.scopedRest (Ix := Unit) (Name := ℕ) (U := UR sig nD τ) (Lvl := ℕ) (Val := Elt F) spec0 c from BI.Entails.refl _); iexact H
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => W2 m c b) ((pdats m 0 c).arrAt · cfg0.N)
      (fun w => by
        fin_cases w
        · exact ((pdats m 0 c).arrAt_in 0 rfl _).trans (keep0 m c main_arg0 (by decide)).symm
        · exact ((pdats m 0 c).arrAt_in 1 rfl _).trans (keep0 m c main_arg2 (by decide)).symm
        · exact ((pdats m 0 c).arrAt_in 2 rfl _).trans (keep0 m c main_v0 (by decide)).symm
        · exact ((pdats m 0 c).arrAt_in 3 rfl _).trans (keep0 m c main_arg4 (by decide)).symm
        · exact ((pdats m 0 c).arrAt_in 4 rfl _).trans (keep0 m c main_arg6 (by decide)).symm
        · exact ((pdats m 0 c).arrAt_in 5 rfl _).trans (keep0 m c main_v1 (by decide)).symm
        · exact (out0_6 m c).symm
        · exact (out0_7 m c).symm)
      (fun b hb => keep0 m c b ⟨fun e => hb (e ▸ Finset.mem_image.mpr ⟨6, Finset.mem_univ _, rfl⟩), fun e => hb (e ▸ Finset.mem_image.mpr ⟨7, Finset.mem_univ _, rfl⟩)⟩)
    iintro ⟨Ha, HO, -, Hrest⟩
    ihave H := hjoin $$ [Ha Hrest]
    · isplitl [Ha] <;> iassumption
    imodintro
    isplitl [H]; · iexact H
    unfold Pipeline.Dat.owesAt Pipeline.owesWithin
    icases HO with ⟨%W, -, HO⟩
    iexists W; iexact HO

/-- Past call 1 a buffer that is none of its outputs is as it was. -/
theorem keep1 (c : Dev nD) (b : Ref sig .tc) (h : b ≠ main_v6) : W4 m c b = W3 m c b := by
  unfold W4
  rw [Function.update_of_ne (StableHlo.devRef_ne_of_ne h)]

set_option backward.isDefEq.respectTransparency.types false in
set_option maxHeartbeats 1000000 in
/-- Call 1 as a segment: entered with the unscoped buffers as it finds them, left with its outputs written. -/
def seg_call1 : Pipeline.RegionSeg (pcfgs (F := F)) adm (pdats m) () (defs₀ (F := F)) Variants.none L lv 1 where
  win := launch1.win.to₀
  block_pos := launch1.block_pos
  stage_whole := launch1.stage_whole
  K := PEmpty
  osem k := k.elim
  ho := Pipeline.OwnSemFacts.none _
  hbody c := (obligation1 (in1 m) c).loose
  hwaits := Pipeline.hwaits_of_owed_zero _ _ _ _ L lv 1 fun _ _ => rfl
  pre c := iprop(unscopedBufs c (fun b => W3 m c b) ∗ due 0 c)
  post c := iprop(unscopedBufs c (fun b => W4 m c b) ∗ due 0 c)
  X _ := BI.emp
  Y _ := BI.emp
  Z c := Pipeline.unscopedRest (Ix := Unit) (Name := ℕ) (U := UR sig nD τ) (Lvl := ℕ) spec1 c (fun b => W3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W3 m c b) fun _ => rfl
    iintro ⟨⟨Hub, HO⟩, -, -⟩
    ihave H := hsplit $$ Hub
    icases H with ⟨Ha, Hrest⟩
    imodintro
    isplitl [Ha]; · iexact Ha
    isplitr
    · unfold Pipeline.prefHeld
      rw [show (Finset.univ : Finset (Fin 0)) = ∅ from rfl, BI.bigSep_empty]
      iempintro
    isplitl [HO]
    · unfold Pipeline.Dat.owesAt Pipeline.owesWithin
      icases HO with ⟨%W, HO⟩
      iexists W
      isplitr
      · ipureintro; exact fun _ _ => Or.inl trivial
      iexact HO
    isplitr; · iempintro
    iexact Hrest
  hin c := by
    iintro ⟨-, -, H⟩
    iapply (show Pipeline.scopedRest (Ix := Unit) (Name := ℕ) (U := UR sig nD τ) (Lvl := ℕ) (Val := Elt F) spec1 c ⊢ (pdats m 1 c).Φ 0 from Inv1_start (in1 m) c); iexact H
  hout c := by
    rw [Pipeline.ownSems0_none]
    iintro H
    isplitr; · iempintro
    isplitr; · iempintro
    iapply (show (pdats m 1 c).Φ (Fin.last _) ⊢ Pipeline.scopedRest (Ix := Unit) (Name := ℕ) (U := UR sig nD τ) (Lvl := ℕ) (Val := Elt F) spec1 c from Inv1_end (in1 m) c _); iexact H
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W3 m c b) (fun b => W4 m c b) ((pdats m 1 c).arrAt · cfg1.N)
      (fun w => by
        fin_cases w
        · exact ((pdats m 1 c).arrAt_in 0 rfl _).trans (keep1 m c main_arg1 (by decide)).symm
        · exact ((pdats m 1 c).arrAt_in 1 rfl _).trans (keep1 m c main_v2_0 (by decide)).symm
        · exact ((pdats m 1 c).arrAt_in 2 rfl _).trans (keep1 m c main_v2_1 (by decide)).symm
        · exact ((pdats m 1 c).arrAt_in 3 rfl _).trans (keep1 m c main_v3 (by decide)).symm
        · exact ((pdats m 1 c).arrAt_in 4 rfl _).trans (keep1 m c main_v4 (by decide)).symm
        · exact ((pdats m 1 c).arrAt_in 5 rfl _).trans (keep1 m c main_arg9 (by decide)).symm
        · exact ((pdats m 1 c).arrAt_in 6 rfl _).trans (keep1 m c main_arg11 (by decide)).symm
        · exact ((pdats m 1 c).arrAt_in 7 rfl _).trans (keep1 m c main_v5 (by decide)).symm
        · exact (out1_8 m c).symm)
      (fun b hb => keep1 m c b (fun e => hb (e ▸ Finset.mem_image.mpr ⟨8, Finset.mem_univ _, rfl⟩)))
    iintro ⟨Ha, HO, -, Hrest⟩
    ihave H := hjoin $$ [Ha Hrest]
    · isplitl [Ha] <;> iassumption
    imodintro
    isplitl [H]; · iexact H
    unfold Pipeline.Dat.owesAt Pipeline.owesWithin
    icases HO with ⟨%W, -, HO⟩
    iexists W; iexact HO

end Cert.Proof

end

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Segments
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local instance] Cert.KernelIdeal.Gen.facts

variable (m : (ℓ : Loc nD τ sig) → Buf (Elt F) ℓ) (ρ : Dev nD → PrngReg)

/-- What a final state holds on core `c`: the result as the second call leaves it, every argument as launched. -/
def Ends (c : Dev nD) (s : MemSt nD τ sig (Elt F)) : Prop :=
  s.mem ((c.tc : Thread nD τ).loc main_v6) = fggOut m c ∧
  s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11)

/-! Each call's states are the program's thread states. -/

/-- The state after the first reshapes is what the first call enters with. -/
theorem enter0 (c : Dev nD) : iprop(StableHlo.held (c : Thread nD τ) (Pipeline.ucRefs τ sig) (V1 m c) ∗ due 0 c) ⊢ (seg_call0 m).pre c := by
  rw [← Pipeline.unscopedBufs_held (Ix := Unit) (Name := ℕ) (U := UR sig nD τ) (Lvl := ℕ) c (V1 m c)]
  exact .rfl

/-- What the first call leaves is the state after it. -/
theorem leave0 (c : Dev nD) : (seg_call0 m).post c ⊢ iprop(StableHlo.held (c : Thread nD τ) (Pipeline.ucRefs τ sig) (V2 m (outs m) c) ∗ due 1 c) := by
  rw [outs_2, ← Pipeline.unscopedBufs_held (Ix := Unit) (Name := ℕ) (U := UR sig nD τ) (Lvl := ℕ) c (W2 m c)]
  exact .rfl

/-- The state after the reshapes is what the second call enters with. -/
theorem enter1 (c : Dev nD) : iprop(StableHlo.held (c : Thread nD τ) (Pipeline.ucRefs τ sig) (V3 m (outs m) c) ∗ due 1 c) ⊢ (seg_call1 m).pre c := by
  rw [outs_3, ← Pipeline.unscopedBufs_held (Ix := Unit) (Name := ℕ) (U := UR sig nD τ) (Lvl := ℕ) c (W3 m c)]
  exact .rfl

/-- What the second call leaves is the state after it. -/
theorem leave1 (c : Dev nD) : (seg_call1 m).post c ⊢ iprop(StableHlo.held (c : Thread nD τ) (Pipeline.ucRefs τ sig) (V4 m (outs m) c) ∗ due 2 c) := by
  rw [outs_4, ← Pipeline.unscopedBufs_held (Ix := Unit) (Name := ℕ) (U := UR sig nD τ) (Lvl := ℕ) c (W4 m c)]
  exact .rfl

/-- The launch's first thread state: the unscoped buffers at the launch contents, nothing owed. -/
theorem launch_start :
    iprop((bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)) ∗ levAts L lv)
      ⊢ (|={Set.univ}=> bigSep Finset.univ fun c : Dev nD =>
        iprop(StableHlo.held (c : Thread nD τ) (Pipeline.ucRefs τ sig) (V0 m c) ∗ due 0 c) : sProp 𝕄) := by
  have hone : ∀ c : Dev nD, iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ BI.emp)
      ⊢ (iprop(StableHlo.held (c : Thread nD τ) (Pipeline.ucRefs τ sig) (V0 m c) ∗ due 0 c) : sProp 𝕄) := fun c => by
    rw [← Pipeline.unscopedBufs_held (Ix := Unit) (Name := ℕ) (U := UR sig nD τ) (Lvl := ℕ) c (V0 m c)]
    iintro ⟨Hb, -, Ho, -, -, -⟩
    isplitl [Hb]; · iexact Hb
    iexists _; iexact Ho
  iintro ⟨H, -⟩
  imodintro
  iapply (show _ ⊢ _ from bigSep_mono fun c _ => hone c); iexact H

set_option backward.isDefEq.respectTransparency.types false in
/-- Every execution of the program ends, with the result as the second call leaves it, the arguments as launched and
    every semaphore counter at zero. -/
theorem run_ends : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj
    (emb₁ : Emb (URounds (GSem nD τ sig) Unit) 𝕄) defs₀ Variants.none L lv m ρ main
    (segs m (outs m) Variants.none L lv due () (pdats m) (seg_call0 m) (seg_call1 m))
    (fun c Q => by
      rewrite [main_chain c, Pipeline.Seg.run_eq_chain,
        show (segs m (outs m) Variants.none L lv due () (pdats m) (seg_call0 m) (seg_call1 m) c).map Pipeline.Seg.prog = [
          StableHlo.seq hostOps0, Prog.lift (.customCall (Pipeline.entry 0) ()),
          StableHlo.seq hostOps1, Prog.lift (.customCall (Pipeline.entry 1) ()) ] from rfl]
      exact .rfl)
    (fun c => by simp only [segs, Pipeline.Seg.pipes_host, Pipeline.Seg.pipes_region, Pipeline.Seg.pipes_nil]; decide)
    (fun _ => 0) (fun _ _ => rfl) (fun _ => BI.emp)
    (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => BI.emp) from by rw [BI.bigSep_emp_const])
      iempintro)
    (T₀ := fun c => iprop(StableHlo.held (c : Thread nD τ) (Pipeline.ucRefs τ sig) (V0 m c) ∗ due 0 c))
    (Tₙ := fun c => StableHlo.held (c : Thread nD τ) (Pipeline.ucRefs τ sig) (V4 m (outs m) c))
    (hch := fun c => ⟨.rfl, enter0 m c, leave0 m c, enter1 m c, leave1 m c⟩)
    (hinit := launch_start m ρ) (QY := Ends m)
    (hfin := fun c s' => ?_) (hQ := fun _ h hz => ⟨h, funext fun g => hz g (.inr (regions_no_unscoped g.2))⟩)
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨(h (Proc.devRef .tc main_v6) (Finset.mem_filter.mpr ⟨StableHlo.devRef_mem_tcRefs main_v6, by decide⟩)).trans (by rw [outs_4]; exact out1_8 m c),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c),
        (h (Proc.devRef .tc main_arg10) (Finset.mem_filter.mpr ⟨StableHlo.devRef_mem_tcRefs main_arg10, by decide⟩)).trans (V4_main_arg10 m (outs m) c),
        (h (Proc.devRef .tc main_arg11) (Finset.mem_filter.mpr ⟨StableHlo.devRef_mem_tcRefs main_arg11, by decide⟩)).trans (V4_main_arg11 m (outs m) c)⟩
    · iexact HSI

end Cert.Proof

end

end
-- ==== Proof.Transport.lean ====
module

public import proofs.«01_k».proof.Proof.Gen.Kernel
public import proofs.«01_k».proof.Proof.Gen.KernelIdeal

/-!
The kernel's program and its idealized program are the same program: no rewrite was asked for, so a run of the one is
a run of the other.
-/

@[expose] public section

set_option maxRecDepth 65536

namespace Cert.Proof

open Idealize.ShloMosaic

variable {F : FTy → Type} [FloatOps F]

attribute [local instance] Cert.Kernel.Gen.facts Cert.KernelIdeal.Gen.facts

/-- The second call's body is the same in both. -/
theorem same_body : (Cert.Kernel.cc1__fgg_kernel (F := F)) = Cert.KernelIdeal.cc1__fgg_kernel (F := F) := by
  with_unfolding_all rfl

set_option maxHeartbeats 4000000 in
/-- The tables of bodies are the same. -/
theorem same_bodies : (Cert.Kernel.defs₀ (F := F)) = (Cert.KernelIdeal.defs₀ (F := F)) := by
  unfold Cert.Kernel.defs₀ Cert.KernelIdeal.defs₀
  refine congrArg _ (funext fun l => ?_)
  match l with
  | 0 => refine funext fun x => ?_; with_unfolding_all rfl
  | 1 =>
    refine funext fun ⟨t, s⟩ => ?_
    dsimp only
    rw [same_body]
    with_unfolding_all rfl

set_option maxHeartbeats 4000000 in
/-- A statement of every run of the idealized program is one of every run of the kernel's. -/
theorem run_of_ideal (m g) (P : _ → Prop)
    (h : θ_run (Cert.KernelIdeal.defs (F := F)) (onTc (τ := Cert.KernelIdeal.τ) (Cert.KernelIdeal.main (F := F))) ⟨m, fun _ => 0, g⟩ P) :
    θ_run (Cert.Kernel.defs (F := F)) (onTc (τ := Cert.Kernel.τ) (Cert.Kernel.main (F := F))) ⟨m, fun _ => 0, g⟩ P := by
  unfold Cert.Kernel.defs
  unfold Cert.KernelIdeal.defs at h
  rw [same_bodies]
  with_unfolding_all exact h

end Cert.Proof

end
-- ==== Proof.Frames.lean ====
module

public import proofs.«01_k».proof.Defs
public import proofs.«01_k».proof.Proof.Gen.ReferenceIdeal.Run
public import proofs.«01_k».proof.Proof.Run
public import proofs.«01_k».proof.Proof.Transport

/-!
The three frames: each program ends without fault, with its arguments as they were and every counter at zero.
-/

@[expose] public section

set_option maxRecDepth 16384

namespace Cert.Proof

open Idealize.ShloMosaic Idealize.SL.Sem

attribute [local instance] Cert.Kernel.Gen.facts Cert.KernelIdeal.Gen.facts Cert.ReferenceIdeal.Gen.facts

/-- The idealized kernel's frame. -/
theorem frame_ideal : Cert.quiescent_KernelIdeal := fun m g _ =>
  (θ_run Cert.KernelIdeal.defs _ _).mono (fun _ h => ⟨fun c => (h.1 c).2, h.2⟩) (run_ends (F := Ideal) m g)

/-- The kernel's frame. -/
theorem frame_kernel : Cert.quiescent_Kernel := fun m g _ =>
  run_of_ideal m g _ ((θ_run Cert.KernelIdeal.defs _ _).mono (fun _ h => ⟨fun c => (h.1 c).2, h.2⟩) (run_ends (F := Bits) m g))

/-- The reference's frame. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

end Cert.Proof

end
-- ==== Proof.Maths.lean ====
module

public import Idealize.ShloMosaic.Lib.Pointwise

/-!
The network over the extended reals, written on plain indices: two layers of a graph convolution with two edge types
and a root term, a batch normalisation between them, and the few equations by which the two programs differ.
-/

@[expose] public section

noncomputable section

namespace Cert.Proof

open Idealize.ShloMosaic

/-- The number of nodes, as both programs divide by it. -/
abbrev count : EReal := Ideal.ofBits .f32 0x461C4000#32
/-- What the batch normalisation adds to the variance. -/
abbrev eps : EReal := Ideal.ofBits .f32 0x3727C5AC#32

/-- The word that both programs divide by is ten thousand. -/
theorem count_eq : count = ((10000 : ℝ) : EReal) := by
  simp [count, Ideal.ofBits, Ideal.ieee, -EReal.coe_mul]; norm_num

/-- The number of nodes is positive. -/
theorem count_pos : 0 < count := by rw [count_eq]; exact_mod_cast (by norm_num : (0 : ℝ) < 10000)

/-- The variance's addend as a real number. -/
theorem eps_eq : eps = ((10995116 / 2 ^ 40 : ℝ) : EReal) := by
  simp [eps, Ideal.ofBits, Ideal.ieee, -EReal.coe_mul]; norm_num

/-- The variance's addend is positive. -/
theorem eps_pos : 0 < eps := by rw [eps_eq]; exact_mod_cast (by positivity : (0 : ℝ) < 10995116 / 2 ^ 40)

/-! ## The network -/

/-- The exponential linear unit. -/
def elu (z : EReal) : EReal := if 0 < z then z else Ideal.exp z - 1

/-- With the exponent cut off at zero it is the same: the branch is taken only at or below zero. -/
theorem elu_min (z : EReal) : (if 0 < z then z else Ideal.exp (min z 0) - 1) = elu z := by
  unfold elu
  split
  · rfl
  · rename_i h; rw [min_eq_left (not_lt.mp h)]

/-- With the exponent replaced by zero where it is not used it is the same. -/
theorem elu_guard (z : EReal) : (if 0 < z then z else Ideal.exp (if 0 < z then 0 else z) - 1) = elu z := by
  unfold elu
  split
  · rfl
  · rfl

/-- A product of two matrices at an entry. -/
def dot {n a b : ℕ} (x : Fin n → Fin a → EReal) (w : Fin a → Fin b → EReal) (r : Fin n) (j : Fin b) : EReal :=
  ∑ k, x r k * w k j

/-- The nodes' features after the first, dense layer. -/
def node {n a b : ℕ} (f : Fin n → Fin a → EReal) (d : Fin a → Fin b → EReal) (bd : Fin b → EReal) (r : Fin n) (k : Fin b) : EReal :=
  elu (dot f d r k + bd k)

/-- One graph convolution: the root term, then the neighbours over either edge type. -/
def conv {n a b : ℕ} (adj : Fin 2 → Fin n → Fin n → EReal) (x : Fin n → Fin a → EReal) (w : Fin 2 → Fin a → Fin b → EReal)
    (bias : Fin b → EReal) (root : Fin a → Fin b → EReal) (r : Fin n) (j : Fin b) : EReal :=
  dot x root r j + bias j + dot (adj 0) (dot x (w 0)) r j + dot (adj 1) (dot x (w 1)) r j

/-- The same with the neighbours first and the weights before the features. -/
theorem conv_eq {n a b : ℕ} (adj : Fin 2 → Fin n → Fin n → EReal) (x : Fin n → Fin a → EReal) (w : Fin 2 → Fin a → Fin b → EReal)
    (bias : Fin b → EReal) (root : Fin a → Fin b → EReal) (r : Fin n) (j : Fin b) :
    (∑ e, ∑ s, adj e r s * ∑ k, w e k j * x s k) + bias j + ∑ k, x r k * root k j = conv adj x w bias root r j := by
  have h : ∀ e, (∑ s, adj e r s * ∑ k, w e k j * x s k) = dot (adj e) (dot x (w e)) r j := fun e =>
    Finset.sum_congr rfl fun s _ => by
      rw [show (∑ k, w e k j * x s k) = dot x (w e) s j from Finset.sum_congr rfl fun k _ => mul_comm _ _]
  rw [Fin.sum_univ_two, h 0, h 1]
  unfold conv
  rw [show (∑ k, x r k * root k j) = dot x root r j from rfl]
  ac_rfl

/-- A column's mean. -/
def mean {n a : ℕ} (h : Fin n → Fin a → EReal) (j : Fin a) : EReal := Ideal.div (∑ s, h s j) count

/-- A column's variance. -/
def var {n a : ℕ} (h : Fin n → Fin a → EReal) (j : Fin a) : EReal :=
  Ideal.div (∑ s, (h s j - mean h j) * (h s j - mean h j)) count

/-- The batch normalisation. -/
def norm {n a : ℕ} (h : Fin n → Fin a → EReal) (g be : Fin a → EReal) (r : Fin n) (j : Fin a) : EReal :=
  (h r j - mean h j) * Ideal.rsqrt (var h j + eps) * g j + be j

/-- A square is not negative. -/
theorem sq_nonneg_ereal (z : EReal) : 0 ≤ z * z := by
  rcases le_total 0 z with h | h
  · exact mul_nonneg h h
  · exact EReal.mul_nonneg_iff.mpr (Or.inr ⟨h, h⟩)

/-- A nonnegative sum divided by the number of nodes is not negative. -/
theorem div_count_nonneg {z : EReal} (h : 0 ≤ z) : 0 ≤ Ideal.div z count := by
  unfold Ideal.div
  rw [if_neg count_pos.ne']
  exact mul_nonneg h (EReal.inv_nonneg_of_nonneg count_pos.le)

/-- A variance is not negative. -/
theorem var_nonneg {n a : ℕ} (h : Fin n → Fin a → EReal) (j : Fin a) : 0 ≤ var h j :=
  div_count_nonneg (Finset.sum_nonneg fun _ _ => sq_nonneg_ereal _)

/-- Off zero, to divide by a root is to multiply by its inverse. -/
theorem div_sqrt (x : EReal) {v : EReal} (hv : 0 < v) : Ideal.div x (Ideal.sqrt v) = x * Ideal.rsqrt v := by
  induction v using EReal.rec with
  | bot => exact absurd hv (by simp)
  | top => simp [Ideal.div]
  | coe v =>
    have hp : 0 < v := by exact_mod_cast hv
    have hs : Real.sqrt v ≠ 0 := (Real.sqrt_pos.mpr hp).ne'
    rw [Ideal.sqrt_coe, Ideal.rsqrt_coe, if_neg hp.le.not_gt, if_neg hp.le.not_gt, if_neg hp.ne', Ideal.div,
      if_neg (by exact_mod_cast hs), EReal.coe_inv]

/-- The batch normalisation with a quotient by the standard deviation. -/
theorem norm_eq {n a : ℕ} (h : Fin n → Fin a → EReal) (g be : Fin a → EReal) (r : Fin n) (j : Fin a) :
    Ideal.div (h r j - mean h j) (Ideal.sqrt (var h j + eps)) * g j + be j = norm h g be r j := by
  unfold norm
  rw [div_sqrt _ (lt_of_lt_of_le eps_pos (le_add_of_nonneg_left (var_nonneg h j)))]

/-- What the first graph convolution's output becomes before the second. -/
def act {n a : ℕ} (h : Fin n → Fin a → EReal) (g be : Fin a → EReal) (r : Fin n) (j : Fin a) : EReal := elu (norm h g be r j)

/-- The whole network: features, adjacencies, dense layer, first convolution, normalisation, second convolution. -/
def net {n q a b o : ℕ} (f : Fin n → Fin q → EReal) (adj : Fin 2 → Fin n → Fin n → EReal) (d : Fin q → Fin a → EReal) (bd : Fin a → EReal)
    (w0 : Fin 2 → Fin a → Fin b → EReal) (b0 : Fin b → EReal) (r0 : Fin a → Fin b → EReal) (g be : Fin b → EReal)
    (w1 : Fin 2 → Fin b → Fin o → EReal) (b1 : Fin o → EReal) (r1 : Fin b → Fin o → EReal) : Fin n → Fin o → EReal :=
  conv adj (act (conv adj (node f d bd) w0 b0 r0) g be) w1 b1 r1

/-- Row `p` of row block `b`. -/
def blkRow (b : Fin 25) (p : Fin 400) : Fin 10000 := ⟨400 * b.val + p.val, by omega⟩

/-- Every row is one of them. -/
theorem exists_blkRow (r : Fin 10000) : ∃ b p, r = blkRow b p :=
  ⟨⟨r.val / 400, by omega⟩, ⟨r.val % 400, by omega⟩, Fin.ext (by show r.val = 400 * (r.val / 400) + r.val % 400; omega)⟩

end Cert.Proof

end

end
-- ==== Proof.Blocks.lean ====
module

public import proofs.«01_k».proof.Proof.Segments
public import proofs.«01_k».proof.Proof.Maths
public import Idealize.ShloMosaic.Lib.Pipeline.ValueKit
public import Idealize.ShloMosaic.Lib.Claim

/-!
Where each block of the two calls lies in its array, and what the two calls find in their arrays.
-/

@[expose] public section

set_option maxRecDepth 16384

noncomputable section

namespace Cert.Proof

open Cert.KernelIdeal Cert.KernelIdeal.Gen
open Idealize.ShloMosaic Idealize.ShloMosaic.TcCoe

attribute [local instance] Cert.KernelIdeal.Gen.facts

/-! ## The blocks of the first call -/

section Blocks0

variable (V : (c : Dev nD) → (b : Ref sig .tc) → Buf (Elt Ideal) ((c : Thread nD τ).loc b)) (c : Dev nD)

/-- Where the feature tile lies at a point of the first call, in blocks. -/
theorem at0_0 : ∀ t : Fin cfg0.N, win0_0.index t = ![t.val, 0] := (by decide +kernel : ∀ t : Fin grid0.N, _)
/-- Where the dense layer's weights lies at a point of the first call, in blocks. -/
theorem at0_1 : ∀ t : Fin cfg0.N, win0_1.index t = ![0, 0] := (by decide +kernel : ∀ t : Fin grid0.N, _)
/-- Where the dense layer's bias row lies at a point of the first call, in blocks. -/
theorem at0_2 : ∀ t : Fin cfg0.N, win0_2.index t = ![0, 0] := (by decide +kernel : ∀ t : Fin grid0.N, _)
/-- Where the first convolution's weights lies at a point of the first call, in blocks. -/
theorem at0_3 : ∀ t : Fin cfg0.N, win0_3.index t = ![0, 0, 0] := (by decide +kernel : ∀ t : Fin grid0.N, _)
/-- Where the first convolution's root weights lies at a point of the first call, in blocks. -/
theorem at0_4 : ∀ t : Fin cfg0.N, win0_4.index t = ![0, 0] := (by decide +kernel : ∀ t : Fin grid0.N, _)
/-- Where the first convolution's bias row lies at a point of the first call, in blocks. -/
theorem at0_5 : ∀ t : Fin cfg0.N, win0_5.index t = ![0, 0] := (by decide +kernel : ∀ t : Fin grid0.N, _)
/-- Where the tile of transformed nodes lies at a point of the first call, in blocks. -/
theorem at0_6 : ∀ t : Fin cfg0.N, win0_6.index t = ![0, t.val, 0] := (by decide +kernel : ∀ t : Fin grid0.N, _)
/-- Where the tile of the root term lies at a point of the first call, in blocks. -/
theorem at0_7 : ∀ t : Fin cfg0.N, win0_7.index t = ![t.val, 0] := (by decide +kernel : ∀ t : Fin grid0.N, _)

/-- A row of a tile is a row of the array. -/
theorem tileRow (t : Fin cfg0.N) (p : Fin 2000) : 2000 * t.val + p.val < 10000 := by
  have : t.val < 5 := t.isLt
  omega

/-- The feature tile. -/
theorem blk0_feat (t : Fin cfg0.N) (p : Fin 2000) (q : Fin 512) :
    blk0 V c 0 t (ix2 p q) = V c main_arg0 (ix2 ⟨2000 * t.val + p.val, tileRow t p⟩ q) := by
  blk_ext [blk0, at0_0]

/-- The dense layer's weights, whole at every tile. -/
theorem blk0_wd (t : Fin cfg0.N) (q : Fin 512) (k : Fin 128) : blk0 V c 1 t (ix2 q k) = V c main_arg2 (ix2 q k) := by
  blk_ext [blk0, at0_1]
/-- The dense layer's bias row, whole at every tile. -/
theorem blk0_bd (t : Fin cfg0.N) (k : Fin 128) : blk0 V c 2 t (ix2 0 k) = V c main_v0 (ix2 0 k) := by
  blk_ext [blk0, at0_2]
/-- The first convolution's weights, whole at every tile. -/
theorem blk0_w0 (t : Fin cfg0.N) (e : Fin 2) (k : Fin 128) (j : Fin 64) : blk0 V c 3 t (ix3 e k j) = V c main_arg4 (ix3 e k j) := by
  blk_ext [blk0, at0_3]
/-- The first convolution's root weights, whole at every tile. -/
theorem blk0_r0 (t : Fin cfg0.N) (k : Fin 128) (j : Fin 64) : blk0 V c 4 t (ix2 k j) = V c main_arg6 (ix2 k j) := by
  blk_ext [blk0, at0_4]
/-- The first convolution's bias row, whole at every tile. -/
theorem blk0_b0 (t : Fin cfg0.N) (j : Fin 64) : blk0 V c 5 t (ix2 0 j) = V c main_v1 (ix2 0 j) := by
  blk_ext [blk0, at0_5]

end Blocks0

/-! ## The blocks of the second call -/

section Blocks1

variable (V : (c : Dev nD) → (b : Ref sig .tc) → Buf (Elt Ideal) ((c : Thread nD τ).loc b)) (c : Dev nD)

/-- Where the adjacency block lies in its array, in blocks. -/
theorem at1_0 : ∀ (l : Fin 2) (b : Fin 25) (e : Fin 2), win1_0.index (ptOf l b e) = ![e.val, b.val, 0] := by decide +kernel
/-- Where the transformed nodes lies in its array, in blocks. -/
theorem at1_1 : win1_1.index pt1 = ![0, 0, 0] := by decide +kernel
/-- Where the root term lies in its array, in blocks. -/
theorem at1_2 : win1_2.index pt1 = ![0, 0] := by decide +kernel
/-- Where the batch norm's scale row lies in its array, in blocks. -/
theorem at1_3 : win1_3.index pt1 = ![0, 0] := by decide +kernel
/-- Where the batch norm's shift row lies in its array, in blocks. -/
theorem at1_4 : win1_4.index pt1 = ![0, 0] := by decide +kernel
/-- Where the second convolution's weights lies in its array, in blocks. -/
theorem at1_5 : win1_5.index pt1 = ![0, 0, 0] := by decide +kernel
/-- Where the second convolution's root weights lies in its array, in blocks. -/
theorem at1_6 : win1_6.index pt1 = ![0, 0] := by decide +kernel
/-- Where the second convolution's bias row lies in its array, in blocks. -/
theorem at1_7 : win1_7.index pt1 = ![0, 0] := by decide +kernel
/-- Where the result block lies in its array, in blocks. -/
theorem at1_8 : ∀ (l : Fin 2) (b : Fin 25) (e : Fin 2), win1_8.index (ptOf l b e) = ![b.val, 0] := by decide +kernel

/-- The adjacency block of a point. -/
theorem blk1_adj (l : Fin 2) (b : Fin 25) (e : Fin 2) (p : Fin 400) (s : Fin 10000) :
    adj V c (ptOf l b e) (ix3 0 p s) = V c main_arg1 (ix3 e (blkRow b p) s) := by
  show blk1 V c 0 (ptOf l b e) (ix3 0 p s) = _
  blk_ext [blk1, at1_0, blkRow]

/-- The transformed nodes, whole at every point. -/
theorem blk1_x (e : Fin 2) (s : Fin 10000) (j : Fin 64) : opX V c (ix3 e s j) = V c main_v2_0 (ix3 e s j) := by
  show blk1 V c 1 pt1 (ix3 e s j) = _
  blk_ext [blk1, at1_1]
/-- The root term, whole at every point. -/
theorem blk1_r (s : Fin 10000) (j : Fin 64) : opXr V c (ix2 s j) = V c main_v2_1 (ix2 s j) := by
  show blk1 V c 2 pt1 (ix2 s j) = _
  blk_ext [blk1, at1_2]
/-- The batch norm's scale row, whole at every point. -/
theorem blk1_g (j : Fin 64) : opG V c (ix2 0 j) = V c main_v3 (ix2 0 j) := by
  show blk1 V c 3 pt1 (ix2 0 j) = _
  blk_ext [blk1, at1_3]
/-- The batch norm's shift row, whole at every point. -/
theorem blk1_be (j : Fin 64) : opBe V c (ix2 0 j) = V c main_v4 (ix2 0 j) := by
  show blk1 V c 4 pt1 (ix2 0 j) = _
  blk_ext [blk1, at1_4]
/-- The second convolution's weights, whole at every point. -/
theorem blk1_w1 (e : Fin 2) (k : Fin 64) (j : Fin 32) : opW1 V c (ix3 e k j) = V c main_arg9 (ix3 e k j) := by
  show blk1 V c 5 pt1 (ix3 e k j) = _
  blk_ext [blk1, at1_5]
/-- The second convolution's root weights, whole at every point. -/
theorem blk1_r1 (k : Fin 64) (j : Fin 32) : opR1 V c (ix2 k j) = V c main_arg11 (ix2 k j) := by
  show blk1 V c 6 pt1 (ix2 k j) = _
  blk_ext [blk1, at1_6]
/-- The second convolution's bias row, whole at every point. -/
theorem blk1_b1 (j : Fin 32) : opB1 V c (ix2 0 j) = V c main_v5 (ix2 0 j) := by
  show blk1 V c 7 pt1 (ix2 0 j) = _
  blk_ext [blk1, at1_7]

end Blocks1

/-! ## What the calls find -/

section Finds

variable (m : (ℓ : Loc nD τ sig) → Buf (Elt Ideal) ℓ) (c : Dev nD)

/-- An argument at the first call. -/
theorem in0_arg (b : Ref sig .tc) (h : b ∉ hostOps0_W) : in0 m c b = m ((c : Thread nD τ).loc b) := (V1_of m c b h).trans rfl

/-- A buffer the reshapes between the calls leave alone, at the second call. -/
theorem in1_kept (b : Ref sig .tc) (h : b ∉ hostOps1_W) : in1 m c b = W2 m c b :=
  StableHlo.after_of_writes_sub hostOps1 _ hostOps1_writes h

/-- An argument at the second call. -/
theorem in1_arg (b : Ref sig .tc) (h1 : b ∉ hostOps1_W) (h0 : b ∉ hostOps0_W) (hb : b ≠ main_v2_0 ∧ b ≠ main_v2_1) :
    in1 m c b = m ((c : Thread nD τ).loc b) :=
  (in1_kept m c b h1).trans ((keep0 m c b hb).trans (in0_arg m c b h0))

/-- An argument between the calls. -/
theorem mid_arg (b : Ref sig .tc) (h0 : b ∉ hostOps0_W) (hb : b ≠ main_v2_0 ∧ b ≠ main_v2_1) :
    W2 m c b = m ((c : Thread nD τ).loc b) :=
  (keep0 m c b hb).trans (in0_arg m c b h0)

/-- The two arrays of the first call at the second. -/
theorem in1_x : in1 m c main_v2_0 = preOutX m c := (in1_kept m c main_v2_0 (by decide)).trans (out0_6 m c)
/-- The first call's second array, as the second call finds it. -/
theorem in1_r : in1 m c main_v2_1 = preOutR m c := (in1_kept m c main_v2_1 (by decide)).trans (out0_7 m c)

/-- The vectors laid out as rows. -/
theorem in0_bd (k : Fin 128) : in0 m c main_v0 (ix2 0 k) = (m ((c : Thread nD τ).loc main_arg3) : Vec Ideal S128 .f32) (ix1 k) := by
  unfold in0 V1
  entry_read
  pointwise
/-- The first convolution's bias laid out as a row. -/
theorem in0_b0 (j : Fin 64) : in0 m c main_v1 (ix2 0 j) = (m ((c : Thread nD τ).loc main_arg5) : Vec Ideal S64 .f32) (ix1 j) := by
  unfold in0 V1
  entry_read
  pointwise
/-- The batch norm's scale laid out as a row. -/
theorem in1_g (j : Fin 64) : in1 m c main_v3 (ix2 0 j) = (m ((c : Thread nD τ).loc main_arg7) : Vec Ideal S64 .f32) (ix1 j) := by
  rw [← mid_arg m c main_arg7 (by decide) (by decide)]
  unfold in1 W3
  entry_read
  pointwise
/-- The batch norm's shift laid out as a row. -/
theorem in1_be (j : Fin 64) : in1 m c main_v4 (ix2 0 j) = (m ((c : Thread nD τ).loc main_arg8) : Vec Ideal S64 .f32) (ix1 j) := by
  rw [← mid_arg m c main_arg8 (by decide) (by decide)]
  unfold in1 W3
  entry_read
  pointwise
/-- The second convolution's bias laid out as a row. -/
theorem in1_b1 (j : Fin 32) : in1 m c main_v5 (ix2 0 j) = (m ((c : Thread nD τ).loc main_arg10) : Vec Ideal S32 .f32) (ix1 j) := by
  rw [← mid_arg m c main_arg10 (by decide) (by decide)]
  unfold in1 W3
  entry_read
  pointwise

end Finds

end Cert.Proof

end

end
-- ==== Proof.FggValue.lean ====
module

public import proofs.«01_k».proof.Proof.FggState
public import proofs.«01_k».proof.Proof.Maths
public import Idealize.ShloMosaic.Lib.Pointwise
public import Idealize.ShloMosaic.Lib.Pipeline.ValueKit

/-!
What the second call computes over the extended reals, from its operands: the hidden layer, the second layer's operands,
and a block of the result.
-/

@[expose] public section

set_option maxRecDepth 16384

noncomputable section

namespace Cert.Proof

open Cert.KernelIdeal Cert.KernelIdeal.Gen
open Idealize.ShloMosaic

attribute [local instance] Cert.KernelIdeal.Gen.facts

/-! ## The body's values at an entry -/

/-- The first edge type of the first layer, at an entry. -/
theorem pay1_at (x : Vec Ideal S400x64 .f32) (a : Vec Ideal S1x400x10000 .f32) (w : Vec Ideal S1x10000x64 .bf16) (p : Fin 400) (j : Fin 64) :
    k1_pay1 x a w (ix2 p j) = x (ix2 p j) + ∑ s, a (ix3 0 p s) * w (ix3 0 s j) := by
  pointwise [k1_pay1]

/-- The second edge type of the first layer, at an entry. -/
theorem pay2_at (x : Vec Ideal S400x64 .f32) (a : Vec Ideal S1x400x10000 .f32) (w : Vec Ideal S1x10000x64 .bf16) (p : Fin 400) (j : Fin 64) :
    k1_pay2 x a w (ix2 p j) = x (ix2 p j) + ∑ s, a (ix3 0 p s) * w (ix3 0 s j) := by
  pointwise [k1_pay2]

/-- The first edge type of the second layer, at an entry. -/
theorem pay7_at (x : Vec Ideal S400x32 .f32) (a : Vec Ideal S1x400x10000 .f32) (w : Vec Ideal S1x10000x32 .bf16) (p : Fin 400) (j : Fin 32) :
    k1_pay7 x a w (ix2 p j) = x (ix2 p j) + ∑ s, a (ix3 0 p s) * w (ix3 0 s j) := by
  pointwise [k1_pay7]

/-- The second edge type of the second layer, at an entry. -/
theorem pay8_at (x : Vec Ideal S400x32 .f32) (a : Vec Ideal S1x400x10000 .f32) (w : Vec Ideal S1x10000x32 .bf16) (p : Fin 400) (j : Fin 32) :
    k1_pay8 x a w (ix2 p j) = x (ix2 p j) + ∑ s, a (ix3 0 p s) * w (ix3 0 s j) := by
  pointwise [k1_pay8]

/-- The normalisation and the activation. -/
theorem pay9_at (h : Vec Ideal S10000x64 .f32) (g be : Vec Ideal S1x64 .f32) (r : Fin 10000) (j : Fin 64) :
    k1_pay9 h g be (ix2 r j) = act (fun r j => h (ix2 r j)) (fun j => g (ix2 0 j)) (fun j => be (ix2 0 j)) r j := by
  pointwise [k1_pay9]
  unfold act
  rw [← elu_min]
  rfl

/-- The activated layer times one edge type's weights, at an entry. -/
theorem pay10_at (h : Vec Ideal S10000x64 .f32) (g be : Vec Ideal S1x64 .f32) (w : Vec Ideal S1x64x32 .f32) (r : Fin 10000) (j : Fin 32) :
    k1_pay10 h g be w (ix2 r j) = ∑ k, k1_pay9 h g be (ix2 r k) * w (ix3 0 k j) := by
  pointwise [k1_pay10]

/-- A matrix stored as one slab of the stack, at an entry. -/
theorem pay4_at (v : Vec Ideal S10000x32 .bf16) (r : Fin 10000) (j : Fin 32) : k1_pay4 (F := Ideal) v (ix3 0 r j) = v (ix2 r j) := by
  pointwise [k1_pay4]

/-- The activated layer times the other edge type's weights, at an entry. -/
theorem pay5_at (v : Vec Ideal S10000x64 .bf16) (w : Vec Ideal S1x64x32 .f32) (r : Fin 10000) (j : Fin 32) :
    k1_pay5 v w (ix3 0 r j) = ∑ k, v (ix2 r k) * w (ix3 0 k j) := by
  pointwise [k1_pay5]

/-- The second layer's root term, at an entry. -/
theorem pay6_at (v : Vec Ideal S10000x64 .bf16) (w : Vec Ideal S64x32 .f32) (b : Vec Ideal S1x32 .f32) (r : Fin 10000) (j : Fin 32) :
    k1_pay6 v w b (ix2 r j) = (∑ k, v (ix2 r k) * w (ix2 k j)) + b (ix2 0 j) := by
  pointwise [k1_pay6]

/-! ## Two stores of different slices, read back -/

/-- The later store's slice read back. -/
theorem ld_canon_last {s : Shape} {e : EltTy} (ra rb : Rect s) (wa : ra.shape.Idx → Elt Ideal e) (wb : rb.shape.Idx → Elt Ideal e) :
    View.ld (View.canon [⟨ra, wa⟩, ⟨rb, wb⟩]) ra = wa :=
  funext fun y => View.canon_cons_emb ra wa _ y

/-- The earlier store's slice read back, the later one being elsewhere. -/
theorem ld_canon_first {s : Shape} {e : EltTy} (ra rb : Rect s) (wa : ra.shape.Idx → Elt Ideal e) (wb : rb.shape.Idx → Elt Ideal e)
    (a : Fin s.rank) (h : ∀ x y, ((ra.emb x) a).val ≠ ((rb.emb y) a).val) :
    View.ld (View.canon [⟨ra, wa⟩, ⟨rb, wb⟩]) rb = wb :=
  funext fun y => by
    refine (View.canon_cons_of_not_mem ⟨ra, wa⟩ _ fun hm => ?_).trans (View.canon_cons_emb rb wb [] y)
    obtain ⟨x, -, hx⟩ := Finset.mem_map.mp ((Rect.map_emb_univ ra).symm ▸ hm)
    exact h x y (congrArg (fun j => (j a).val) hx)

/-! ## The second layer's operands -/

section Next

variable (h : Vec Ideal S10000x64 .f32) (g be : Vec Ideal S1x64 .f32) (w1 : Vec Ideal S2x64x32 .f32) (r1 : Vec Ideal S64x32 .f32) (b1 : Vec Ideal S1x32 .f32)

/-- The activated nodes. -/
abbrev acted (r : Fin 10000) (j : Fin 64) : EReal := act (fun r j => h (ix2 r j)) (fun j => g (ix2 0 j)) (fun j => be (ix2 0 j)) r j

/-- The root term of the second layer. -/
theorem nextR_at (r : Fin 10000) (j : Fin 32) :
    nextR h g be r1 b1 (ix2 r j) = dot (acted h g be) (fun k j => r1 (ix2 k j)) r j + b1 (ix2 0 j) := by
  unfold nextR
  rw [View.canon_unit_zero (by decide), View.ld_unit_zero (by decide), View.ld_unit_zero (by decide), View.ld_unit_zero (by decide),
    View.ld_unit_zero (by decide), View.ld_unit_zero (by decide), pay6_at]
  simp only [pay9_at]
  rfl

/-- The transformed nodes of edge type 1. -/
theorem nextX_at1 (r : Fin 10000) (j : Fin 32) :
    View.ld (nextX h g be w1) rY1 (ix3 0 r j) = dot (acted h g be) (fun k j => w1 (ix3 1 k j)) r j := by
  unfold nextX
  rw [ld_canon_last, View.ld_unit_zero (by decide), View.ld_unit_zero (by decide), View.ld_unit_zero (by decide), pay5_at]
  simp only [pay9_at]
  refine Finset.sum_congr rfl fun k _ => congrArg _ ?_
  exact View.ld_unit_apply_of _ _ _ _ _ (ix3 1 k j) fun a => by fin_cases a <;> simp

/-- The transformed nodes of edge type 0. -/
theorem nextX_at0 (r : Fin 10000) (j : Fin 32) :
    View.ld (nextX h g be w1) rY0 (ix3 0 r j) = dot (acted h g be) (fun k j => w1 (ix3 0 k j)) r j := by
  unfold nextX
  rw [ld_canon_first rY1 rY0 _ _ 0 (fun x y => ?_), View.ld_unit_zero (by decide), View.ld_unit_zero (by decide), View.ld_unit_zero (by decide),
    pay4_at, pay10_at]
  · simp only [pay9_at]
    refine Finset.sum_congr rfl fun k _ => congrArg _ ?_
    exact View.ld_unit_apply_of _ _ _ _ _ (ix3 0 k j) fun a => by fin_cases a <;> simp
  · have hx : (x 0).val < 1 := (x 0).isLt
    have hy : (y 0).val < 1 := (y 0).isLt
    show 1 + 1 * (x 0).val ≠ 0 + 1 * (y 0).val
    omega

end Next

/-! ## The hidden layer and the result -/

section Whole

variable (A : Fin grid1.N → Vec Ideal S1x400x10000 .f32) (xw : Vec Ideal S2x10000x64 .bf16) (xr : Vec Ideal S10000x64 .f32)
  (g be : Vec Ideal S1x64 .f32) (w1 : Vec Ideal S2x64x32 .f32) (r1 : Vec Ideal S64x32 .f32) (b1 : Vec Ideal S1x32 .f32)
  (adj : Fin 2 → Fin 10000 → Fin 10000 → EReal) (x : Fin 10000 → Fin 128 → EReal) (w0 : Fin 2 → Fin 128 → Fin 64 → EReal)
  (b0 : Fin 64 → EReal) (r0 : Fin 128 → Fin 64 → EReal)
  (hA : ∀ (l : Fin 2) (b : Fin 25) (e : Fin 2) (p : Fin 400) (s : Fin 10000),
    A (ptOf l b e) (ix3 0 p s) = adj e (blkRow b p) s)
  (hxw : ∀ e s j, xw (ix3 e s j) = dot x (w0 e) s j)
  (hxr : ∀ s j, xr (ix2 s j) = dot x r0 s j + b0 j)

include hA hxw hxr

/-- A row block of the hidden layer. -/
theorem hidB_at (b : Fin 25) (p : Fin 400) (j : Fin 64) :
    hidB A xw xr b (ix2 p j) = conv adj x w0 b0 r0 (blkRow b p) j := by
  unfold hidB hidA
  rw [pay2_at, pay1_at, View.ld_unit_zero (by decide), View.ld_unit_zero (by decide)]
  have e0 : ∀ s, View.ld xw rX0 (ix3 0 s j) = dot x (w0 0) s j := fun s =>
    (View.ld_unit_apply_of _ _ _ _ _ (ix3 0 s j) fun a => by fin_cases a <;> simp).trans (hxw 0 s j)
  have e1 : ∀ s, View.ld xw rX1 (ix3 0 s j) = dot x (w0 1) s j := fun s =>
    (View.ld_unit_apply_of _ _ _ _ _ (ix3 1 s j) fun a => by fin_cases a <;> simp).trans (hxw 1 s j)
  have er : View.ld xr (rowsH b) (ix2 p j) = xr (ix2 (blkRow b p) j) :=
    View.ld_unit_apply_of _ _ _ _ _ _ fun a => by fin_cases a <;> simp [blkRow]
  simp only [e0, e1, er, hA, hxr]
  rfl

/-- The hidden layer is the first convolution. -/
theorem hid_at (r : Fin 10000) (j : Fin 64) : hid A xw xr (ix2 r j) = conv adj x w0 b0 r0 r j := by
  have h := hidB_at A xw xr adj x w0 b0 r0 hA hxw hxr ⟨r.val / 400, by omega⟩ ⟨r.val % 400, by omega⟩ j
  refine Eq.trans ?_ (h.trans (congrArg (fun r => conv adj x w0 b0 r0 r j) (Fin.ext (Nat.div_add_mod r.val 400))))
  rfl

/-- A block of the result is the second convolution of the normalised and activated first. -/
theorem outB_at (b : Fin 25) (p : Fin 400) (j : Fin 32) :
    outB A xw xr g be w1 r1 b1 b (ix2 p j)
      = conv adj (act (conv adj x w0 b0 r0) (fun j => g (ix2 0 j)) (fun j => be (ix2 0 j))) (fun e k j => w1 (ix3 e k j))
          (fun j => b1 (ix2 0 j)) (fun k j => r1 (ix2 k j)) (blkRow b p) j := by
  unfold outB outA
  rw [pay8_at, pay7_at, View.ld_unit_zero (by decide), View.ld_unit_zero (by decide)]
  have er : View.ld (nextR (hid A xw xr) g be r1 b1) (rowsO b) (ix2 p j)
      = nextR (hid A xw xr) g be r1 b1 (ix2 (blkRow b p) j) :=
    View.ld_unit_apply_of _ _ _ _ _ _ fun a => by fin_cases a <;> simp [blkRow]
  have eh : (fun (r : Fin 10000) (j : Fin 64) => hid A xw xr (ix2 r j)) = conv adj x w0 b0 r0 :=
    funext fun r => funext fun j => hid_at A xw xr adj x w0 b0 r0 hA hxw hxr r j
  simp only [er, nextR_at, nextX_at0, nextX_at1, hA]
  rw [show acted (hid A xw xr) g be = act (conv adj x w0 b0 r0) (fun j => g (ix2 0 j)) (fun j => be (ix2 0 j)) from by
    funext r j; unfold acted; rw [eh]]
  rfl

end Whole

end Cert.Proof

end

end
-- ==== Proof.PreValue.lean ====
module

public import proofs.«01_k».proof.Proof.PreRegion
public import proofs.«01_k».proof.Proof.FggValue

/-!
What the first call computes over the extended reals, from its operands: a tile of transformed nodes and of the root
term.
-/

@[expose] public section

set_option maxRecDepth 16384

noncomputable section

namespace Cert.Proof

open Cert.KernelIdeal Cert.KernelIdeal.Gen
open Idealize.ShloMosaic

attribute [local instance] Cert.KernelIdeal.Gen.facts

/-! ## The body's values at an entry -/

/-- The dense layer of a tile. -/
theorem dense_at (f : Vec Ideal S2000x512 .f32) (d : Vec Ideal S512x128 .f32) (bd : Vec Ideal S1x128 .f32) (p : Fin 2000) (k : Fin 128) :
    k0_pay2 f d bd (ix2 p k) = node (fun p q => f (ix2 p q)) (fun q k => d (ix2 q k)) (fun k => bd (ix2 0 k)) p k := by
  pointwise [k0_pay2]
  unfold node
  rw [← elu_min]
  rfl

/-- The nodes times the first edge type's weights, at an entry. -/
theorem trans0_at (f : Vec Ideal S2000x512 .f32) (d : Vec Ideal S512x128 .f32) (bd : Vec Ideal S1x128 .f32) (w : Vec Ideal S1x128x64 .f32) (p : Fin 2000) (j : Fin 64) :
    k0_pay3 f d bd w (ix3 0 p j) = ∑ k, k0_pay2 f d bd (ix2 p k) * w (ix3 0 k j) := by
  pointwise [k0_pay3]

/-- The nodes times the second edge type's weights, at an entry. -/
theorem trans1_at (f : Vec Ideal S2000x512 .f32) (d : Vec Ideal S512x128 .f32) (bd : Vec Ideal S1x128 .f32) (w : Vec Ideal S1x128x64 .f32) (p : Fin 2000) (j : Fin 64) :
    k0_pay4 f d bd w (ix3 0 p j) = ∑ k, k0_pay2 f d bd (ix2 p k) * w (ix3 0 k j) := by
  pointwise [k0_pay4]

/-- The nodes times the root weights, and the bias, at an entry. -/
theorem root_at (v : Vec Ideal S2000x128 .bf16) (w : Vec Ideal S128x64 .f32) (b : Vec Ideal S1x64 .f32) (p : Fin 2000) (j : Fin 64) :
    k0_pay1 (F := Ideal) v w b (ix2 p j) = (∑ k, v (ix2 p k) * w (ix2 k j)) + b (ix2 0 j) := by
  pointwise [k0_pay1]

/-! ## A tile's two results -/

section Tile

variable (f : Vec Ideal S2000x512 .f32) (d : Vec Ideal S512x128 .f32) (bd : Vec Ideal S1x128 .f32) (w : Vec Ideal S2x128x64 .f32)
  (rw : Vec Ideal S128x64 .f32) (b0 : Vec Ideal S1x64 .f32)

/-- The tile's nodes. -/
abbrev tileNode : Fin 2000 → Fin 128 → EReal := node (fun p q => f (ix2 p q)) (fun q k => d (ix2 q k)) (fun k => bd (ix2 0 k))

/-- The tile's root term. -/
theorem preR_at (p : Fin 2000) (j : Fin 64) :
    preR f d bd rw b0 (ix2 p j) = dot (tileNode f d bd) (fun k j => rw (ix2 k j)) p j + b0 (ix2 0 j) := by
  unfold preR
  rw [View.canon_unit_zero (by decide), View.ld_unit_zero (by decide), View.ld_unit_zero (by decide), View.ld_unit_zero (by decide),
    View.ld_unit_zero (by decide), View.ld_unit_zero (by decide), root_at]
  simp only [dense_at]
  rfl

/-- The tile's transformed nodes. -/
theorem preX_at (e : Fin 2) (p : Fin 2000) (j : Fin 64) :
    preX f d bd w (ix3 e p j) = dot (tileNode f d bd) (fun k j => w (ix3 e k j)) p j := by
  match e with
  | ⟨1, _⟩ =>
    refine (View.ld_unit_apply_of (preX f d bd w) ![1, 0, 0] S1x2000x64.size inb_S2x2000x64_S1x2000x64_1_0_0 (ix3 0 p j) _
      fun a => by fin_cases a <;> simp).symm.trans ?_
    unfold preX
    rw [ld_canon_last, View.ld_unit_zero (by decide), View.ld_unit_zero (by decide), View.ld_unit_zero (by decide), trans1_at]
    simp only [dense_at]
    refine Finset.sum_congr rfl fun k _ => congrArg _ ?_
    exact View.ld_unit_apply_of _ _ _ _ _ (ix3 1 k j) fun a => by fin_cases a <;> simp
  | ⟨0, _⟩ =>
    refine (View.ld_unit_apply_of (preX f d bd w) ![0, 0, 0] S1x2000x64.size inb_S2x2000x64_S1x2000x64_0_0_0 (ix3 0 p j) _
      fun a => by fin_cases a <;> simp).symm.trans ?_
    unfold preX
    rw [ld_canon_first pX1 pX0 _ _ 0 (fun x y => ?_), View.ld_unit_zero (by decide), View.ld_unit_zero (by decide),
      View.ld_unit_zero (by decide), trans0_at]
    · simp only [dense_at]
      refine Finset.sum_congr rfl fun k _ => congrArg _ ?_
      exact View.ld_unit_apply_of _ _ _ _ _ (ix3 0 k j) fun a => by fin_cases a <;> simp
    · have hx : (x 0).val < 1 := (x 0).isLt
      have hy : (y 0).val < 1 := (y 0).isLt
      show 1 + 1 * (x 0).val ≠ 0 + 1 * (y 0).val
      omega

end Tile

end Cert.Proof

end

end
-- ==== Proof.Arrays.lean ====
module

public import proofs.«01_k».proof.Proof.Blocks
public import proofs.«01_k».proof.Proof.PreValue
public import proofs.«01_k».proof.Proof.FggValue

/-!
What the two calls leave in their arrays, as the network of the arguments.
-/

@[expose] public section

set_option maxRecDepth 16384

noncomputable section

namespace Cert.Proof

open Cert.KernelIdeal Cert.KernelIdeal.Gen
open Idealize.ShloMosaic Idealize.ShloMosaic.TcCoe
open Idealize.ShloMosaic.Pipeline (Dat Cfg)

attribute [local instance] Cert.KernelIdeal.Gen.facts

/-! ## A block written back more than once -/

section Last

open Idealize.SL Idealize.SL.RA

variable {nD : Nat} {τ : Topo} {sig : RefSig} {Val : EltTy → Type} {Ix : Type} [DecidableEq Ix] {Name : Type} [DecidableEq Name]
  {U : Type} [URA U] {Lvl : Type} {Λ₀ : Idealize.SL.Sem.Labels} {cfg : Cfg sig Λ₀} {c : Dev nD} (dat : Dat τ Val Ix Name U Lvl cfg c)

/-- The last write-back that covers an element is the one the array keeps. -/
theorem arrAt_last (w : Fin cfg.W) (t : Fin cfg.N) (hf : (cfg.win w).flush t = true) (y : ((cfg.win w).xblock (cfg.grid.coords t)).Idx)
    (hlast : ∀ t' : Fin cfg.N, t.val < t'.val → (cfg.win w).flush t' = true →
      ((cfg.win w).blk t).view.emb y ∉ ((cfg.win w).blk t').view.set) (n : ℕ) (hn : t.val < n) :
    dat.arrAt w n (((cfg.win w).blk t).view.emb y)
      = _root_.cast (congrArg Val ((cfg.win w).blk t).view.elt_eq.symm) (dat.flushed w t y) := by
  induction n with
  | zero => exact absurd hn (Nat.not_lt_zero _)
  | succ n ih =>
    rw [dat.arrAt_succ_apply]
    by_cases he : t.val = n
    · subst he
      rw [dif_pos t.isLt, if_pos hf, View.write_emb_of_mem _ _ (Finset.mem_univ _)]
    · have hlt : t.val < n := by omega
      split
      · next h =>
        split
        · next hfn =>
          rw [View.write_of_not_mem _ _ _ (by rw [View.setOn_univ]; exact hlast ⟨n, h⟩ hlt hfn)]
          exact ih hlt
        · exact ih hlt
      · exact ih hlt

end Last

/-! ## The arguments at plain indices -/

variable (m : (ℓ : Loc nD τ sig) → Buf (Elt Ideal) ℓ) (c : Dev nD)

namespace Ker

/-- The features. -/
abbrev feat (r : Fin 10000) (q : Fin 512) : EReal := (m ((c : Thread nD τ).loc main_arg0) : Vec Ideal S10000x512 .f32) (ix2 r q)
/-- The adjacency matrices, one per edge type. -/
abbrev adj (e : Fin 2) (r s : Fin 10000) : EReal := (m ((c : Thread nD τ).loc main_arg1) : Vec Ideal S2x10000x10000 .f32) (ix3 e r s)
/-- The dense layer's weights. -/
abbrev wd (q : Fin 512) (k : Fin 128) : EReal := (m ((c : Thread nD τ).loc main_arg2) : Vec Ideal S512x128 .f32) (ix2 q k)
/-- The dense layer's bias. -/
abbrev bd (k : Fin 128) : EReal := (m ((c : Thread nD τ).loc main_arg3) : Vec Ideal S128 .f32) (ix1 k)
/-- The first convolution's weights, one matrix per edge type. -/
abbrev w0 (e : Fin 2) (k : Fin 128) (j : Fin 64) : EReal := (m ((c : Thread nD τ).loc main_arg4) : Vec Ideal S2x128x64 .f32) (ix3 e k j)
/-- The first convolution's bias. -/
abbrev b0 (j : Fin 64) : EReal := (m ((c : Thread nD τ).loc main_arg5) : Vec Ideal S64 .f32) (ix1 j)
/-- The first convolution's root weights. -/
abbrev r0 (k : Fin 128) (j : Fin 64) : EReal := (m ((c : Thread nD τ).loc main_arg6) : Vec Ideal S128x64 .f32) (ix2 k j)
/-- The batch norm's scale. -/
abbrev gam (j : Fin 64) : EReal := (m ((c : Thread nD τ).loc main_arg7) : Vec Ideal S64 .f32) (ix1 j)
/-- The batch norm's shift. -/
abbrev bet (j : Fin 64) : EReal := (m ((c : Thread nD τ).loc main_arg8) : Vec Ideal S64 .f32) (ix1 j)
/-- The second convolution's weights, one matrix per edge type. -/
abbrev w1 (e : Fin 2) (k : Fin 64) (j : Fin 32) : EReal := (m ((c : Thread nD τ).loc main_arg9) : Vec Ideal S2x64x32 .f32) (ix3 e k j)
/-- The second convolution's bias. -/
abbrev b1 (j : Fin 32) : EReal := (m ((c : Thread nD τ).loc main_arg10) : Vec Ideal S32 .f32) (ix1 j)
/-- The second convolution's root weights. -/
abbrev r1 (k : Fin 64) (j : Fin 32) : EReal := (m ((c : Thread nD τ).loc main_arg11) : Vec Ideal S64x32 .f32) (ix2 k j)

/-- The nodes after the dense layer. -/
abbrev nodes : Fin 10000 → Fin 128 → EReal := node (feat m c) (wd m c) (bd m c)

end Ker

/-! ## The first call's arrays -/

/-- A tile's nodes are the array's nodes of its rows. -/
theorem tileNode_at (t : Fin cfg0.N) (p : Fin 2000) (k : Fin 128) :
    tileNode (blk0 (in0 m) c 0 t) (blk0 (in0 m) c 1 t) (blk0 (in0 m) c 2 t) p k
      = Ker.nodes m c ⟨2000 * t.val + p.val, tileRow t p⟩ k := by
  unfold tileNode Ker.nodes node dot
  refine congrArg elu (congrArg₂ _ (Finset.sum_congr rfl fun q _ => congrArg₂ _ ?_ ?_) ?_)
  · exact (blk0_feat (in0 m) c t p q).trans (congrFun (in0_arg m c main_arg0 (by decide)) _)
  · exact (blk0_wd (in0 m) c t q k).trans (congrFun (in0_arg m c main_arg2 (by decide)) _)
  · exact (blk0_bd (in0 m) c t k).trans (in0_bd m c k)

/-- The transformed nodes of a tile. -/
theorem tileX_at (t : Fin cfg0.N) (e : Fin 2) (p : Fin 2000) (j : Fin 64) :
    tileX (in0 m) c t (ix3 e p j) = dot (Ker.nodes m c) (Ker.w0 m c e) ⟨2000 * t.val + p.val, tileRow t p⟩ j := by
  unfold tileX
  rw [preX_at]
  refine Finset.sum_congr rfl fun k _ => congrArg₂ _ (tileNode_at m c t p k) ?_
  exact (blk0_w0 (in0 m) c t e k j).trans (congrFun (in0_arg m c main_arg4 (by decide)) _)

/-- The root term of a tile. -/
theorem tileR_at (t : Fin cfg0.N) (p : Fin 2000) (j : Fin 64) :
    tileR (in0 m) c t (ix2 p j) = dot (Ker.nodes m c) (Ker.r0 m c) ⟨2000 * t.val + p.val, tileRow t p⟩ j + Ker.b0 m c j := by
  unfold tileR
  rw [preR_at]
  refine congrArg₂ _ (Finset.sum_congr rfl fun k _ => congrArg₂ _ (tileNode_at m c t p k) ?_) ?_
  · exact (blk0_r0 (in0 m) c t k j).trans (congrFun (in0_arg m c main_arg6 (by decide)) _)
  · exact (blk0_b0 (in0 m) c t j).trans (in0_b0 m c j)

/-- The first call's first array. -/
theorem preOutX_eq : preOutX m c = fun i : S2x10000x64.Idx => dot (Ker.nodes m c) (Ker.w0 m c (i 0)) (i 1) (i 2) := by
  unfold preOutX
  refine (dat0 (in0 m) c).arrAt_eq_of_covers 6 _ (by decide +kernel) fun t hf y => ?_
  obtain ⟨e, p, j, rfl⟩ : ∃ (e : Fin 2) (p : Fin 2000) (j : Fin 64), y = (ix3 e p j : S2x2000x64.Idx) :=
    ⟨y 0, y 1, y 2, funext fun a => by fin_cases a <;> rfl⟩
  have hi : ((cfg0.win 6).blk t).view.emb (ix3 e p j : S2x2000x64.Idx) = (ix3 e ⟨2000 * t.val + p.val, tileRow t p⟩ j : S2x10000x64.Idx) := by
    blk_ext [at0_6]
  rw [hi]
  blk_simp
  rw [after0_6]
  exact tileX_at m c t e p j

/-- The first call's second array. -/
theorem preOutR_eq : preOutR m c = fun i : S10000x64.Idx => dot (Ker.nodes m c) (Ker.r0 m c) (i 0) (i 1) + Ker.b0 m c (i 1) := by
  unfold preOutR
  refine (dat0 (in0 m) c).arrAt_eq_of_covers 7 _ (by decide +kernel) fun t hf y => ?_
  obtain ⟨p, j, rfl⟩ : ∃ (p : Fin 2000) (j : Fin 64), y = (ix2 p j : S2000x64.Idx) :=
    ⟨y 0, y 1, funext fun a => by fin_cases a <;> rfl⟩
  have hi : ((cfg0.win 7).blk t).view.emb (ix2 p j : S2000x64.Idx) = (ix2 ⟨2000 * t.val + p.val, tileRow t p⟩ j : S10000x64.Idx) := by
    blk_ext [at0_7]
  rw [hi]
  blk_simp
  rw [after0_7]
  exact tileR_at m c t p j

/-! ## The second call's array -/

/-- The result block of a row block. -/
theorem out1_at (b : Fin 25) (p : Fin 400) (j : Fin 32) :
    out1 (in1 m) c b (ix2 p j)
      = net (Ker.feat m c) (Ker.adj m c) (Ker.wd m c) (Ker.bd m c) (Ker.w0 m c) (Ker.b0 m c) (Ker.r0 m c) (Ker.gam m c) (Ker.bet m c)
          (Ker.w1 m c) (Ker.b1 m c) (Ker.r1 m c) (blkRow b p) j := by
  unfold out1
  rw [outB_at (adj := Ker.adj m c) (x := Ker.nodes m c) (w0 := Ker.w0 m c) (b0 := Ker.b0 m c) (r0 := Ker.r0 m c)]
  · have hg : (fun j => opG (in1 m) c (ix2 0 j)) = Ker.gam m c := funext fun j => (blk1_g (in1 m) c j).trans (in1_g m c j)
    have hbe : (fun j => opBe (in1 m) c (ix2 0 j)) = Ker.bet m c := funext fun j => (blk1_be (in1 m) c j).trans (in1_be m c j)
    have hb1 : (fun j => opB1 (in1 m) c (ix2 0 j)) = Ker.b1 m c := funext fun j => (blk1_b1 (in1 m) c j).trans (in1_b1 m c j)
    have hw1 : (fun e k j => opW1 (in1 m) c (ix3 e k j)) = Ker.w1 m c := funext fun e => funext fun k => funext fun j =>
      (blk1_w1 (in1 m) c e k j).trans (congrFun (in1_arg m c main_arg9 (by decide) (by decide) (by decide)) _)
    have hr1 : (fun k j => opR1 (in1 m) c (ix2 k j)) = Ker.r1 m c := funext fun k => funext fun j =>
      (blk1_r1 (in1 m) c k j).trans (congrFun (in1_arg m c main_arg11 (by decide) (by decide) (by decide)) _)
    rw [hg, hbe, hb1, hw1, hr1]
    rfl
  · intro l b e p s
    exact (blk1_adj (in1 m) c l b e p s).trans (congrFun (in1_arg m c main_arg1 (by decide) (by decide) (by decide)) _)
  · intro e s j
    exact (blk1_x (in1 m) c e s j).trans ((congrFun (in1_x m c) _).trans (congrFun (preOutX_eq m c) _))
  · intro s j
    exact (blk1_r (in1 m) c s j).trans ((congrFun (in1_r m c) _).trans (congrFun (preOutR_eq m c) _))

/-- The program's result. -/
theorem fggOut_at (r : Fin 10000) (j : Fin 32) :
    (fggOut m c : Vec Ideal S10000x32 .f32) (ix2 r j)
      = net (Ker.feat m c) (Ker.adj m c) (Ker.wd m c) (Ker.bd m c) (Ker.w0 m c) (Ker.b0 m c) (Ker.r0 m c) (Ker.gam m c) (Ker.bet m c)
          (Ker.w1 m c) (Ker.b1 m c) (Ker.r1 m c) r j := by
  obtain ⟨b, p, rfl⟩ := exists_blkRow r
  have hi : ((cfg1.win 8).blk (ptOf 1 b 1)).view.emb (ix2 p j : S400x32.Idx) = (ix2 (blkRow b p) j : S10000x32.Idx) := by
    blk_ext [at1_8, blkRow]
  have key := arrAt_last (dat1 (in1 m) c) 8 (ptOf 1 b 1) ((flush1_8 _).2 (by simp only [ptOf]; omega)) (ix2 p j : S400x32.Idx)
    (fun t' ht hf => ?_) cfg1.N (ptOf 1 b 1).isLt
  · rw [hi] at key
    refine key.trans ?_
    blk_simp
    rw [after1_8, res_out1]
    exact out1_at m c b p j
  · obtain ⟨l', b', e', rfl⟩ := exists_ptOf t'
    have hodd := (flush1_8 _).1 hf
    rw [hi]
    mem_blk [at1_8]
    simp only [ptOf] at ht hodd
    show ¬ ((_ ≤ 400 * b.val + p.val ∧ _) ∧ _)
    rintro ⟨⟨h, -⟩, -⟩
    have := l'.isLt
    omega

end Cert.Proof

end

end
-- ==== Proof.Reference.lean ====
module

public import proofs.«01_k».proof.Proof.Gen.ReferenceIdeal.Run
public import proofs.«01_k».proof.Proof.Maths
public import Idealize.ShloMosaic.Lib.Pointwise
public import Idealize.ShloMosaic.Lib.Tactic.CleanTypes

/-!
What the reference computes over the extended reals: entry by entry it is the network.
-/

@[expose] public section

set_option maxRecDepth 16384

noncomputable section

namespace Cert.Proof.Ref

open Cert.ReferenceIdeal Cert.ReferenceIdeal.Gen Cert.ReferenceIdeal.Value
open Idealize.ShloMosaic Idealize.SL.Sem

attribute [local instance] Cert.ReferenceIdeal.Gen.facts

variable (V : Valuation τ sig (Elt Ideal))

/-! ## The arguments, read at plain indices -/

/-- The features. -/
abbrev feat (r : Fin 10000) (q : Fin 512) : EReal := (V (Proc.devRef .tc main_arg0) : Vec Ideal S10000x512 .f32) (ix2 r q)
/-- The adjacency matrices, one per edge type. -/
abbrev adj (e : Fin 2) (r s : Fin 10000) : EReal := (V (Proc.devRef .tc main_arg1) : Vec Ideal S2x10000x10000 .f32) (ix3 e r s)
/-- The dense layer's weights. -/
abbrev wd (q : Fin 512) (k : Fin 128) : EReal := (V (Proc.devRef .tc main_arg2) : Vec Ideal S512x128 .f32) (ix2 q k)
/-- The dense layer's bias. -/
abbrev bd (k : Fin 128) : EReal := (V (Proc.devRef .tc main_arg3) : Vec Ideal S128 .f32) (ix1 k)
/-- The first convolution's weights, one matrix per edge type. -/
abbrev w0 (e : Fin 2) (k : Fin 128) (j : Fin 64) : EReal := (V (Proc.devRef .tc main_arg4) : Vec Ideal S2x128x64 .f32) (ix3 e k j)
/-- The first convolution's bias. -/
abbrev b0 (j : Fin 64) : EReal := (V (Proc.devRef .tc main_arg5) : Vec Ideal S64 .f32) (ix1 j)
/-- The first convolution's root weights. -/
abbrev r0 (k : Fin 128) (j : Fin 64) : EReal := (V (Proc.devRef .tc main_arg6) : Vec Ideal S128x64 .f32) (ix2 k j)
/-- The batch norm's scale. -/
abbrev gam (j : Fin 64) : EReal := (V (Proc.devRef .tc main_arg7) : Vec Ideal S64 .f32) (ix1 j)
/-- The batch norm's shift. -/
abbrev bet (j : Fin 64) : EReal := (V (Proc.devRef .tc main_arg8) : Vec Ideal S64 .f32) (ix1 j)
/-- The second convolution's weights, one matrix per edge type. -/
abbrev w1 (e : Fin 2) (k : Fin 64) (j : Fin 32) : EReal := (V (Proc.devRef .tc main_arg9) : Vec Ideal S2x64x32 .f32) (ix3 e k j)
/-- The second convolution's bias. -/
abbrev b1 (j : Fin 32) : EReal := (V (Proc.devRef .tc main_arg10) : Vec Ideal S32 .f32) (ix1 j)
/-- The second convolution's root weights. -/
abbrev r1 (k : Fin 64) (j : Fin 32) : EReal := (V (Proc.devRef .tc main_arg11) : Vec Ideal S64x32 .f32) (ix2 k j)

/-! ## The steps -/

/-- The dense layer before its activation. -/
theorem v3_at (r : Fin 10000) (k : Fin 128) :
    (show Vec Ideal S10000x128 .f32 from res_main_v3 V) (ix2 r k) = dot (feat V) (wd V) r k + bd V k := by
  dsimp only
  unfold res_main_v3
  clean_types
  pointwise
  rfl

/-- The dense layer. -/
theorem v4_at (r : Fin 10000) (k : Fin 128) :
    (show Vec Ideal S10000x128 .f32 from res_main_v4 V) (ix2 r k) = node (feat V) (wd V) (bd V) r k := by
  have h := v3_at V r k
  dsimp only at h ⊢
  unfold res_main_v4
  clean_types
  pointwise
  have z : id (constant (F := Ideal) S_ FTy.f32 0#32) ix0 = 0 := Ideal.ofBits_zero_f32
  rw [z]
  unfold node
  rw [← elu_guard, ← h]

/-- The first convolution. -/
theorem v13_at (r : Fin 10000) (j : Fin 64) :
    (show Vec Ideal S10000x64 .f32 from res_main_v13 V) (ix2 r j)
      = conv (adj V) (node (feat V) (wd V) (bd V)) (w0 V) (b0 V) (r0 V) r j := by
  have h := v4_at V
  dsimp only at h ⊢
  unfold res_main_v13
  clean_types
  pointwise
  rw [← conv_eq]
  simp only [h]

/-- The divisor of the variance, a difference with zero, is the number of nodes. -/
theorem divisor : count - FloatOps.sitofp (F := Ideal) FTy.f32 0#32 = count := by
  rw [show FloatOps.sitofp (F := Ideal) FTy.f32 0#32 = (0 : EReal) from ?_, sub_zero]
  show ((((0#32 : BitVec 32).toInt : ℤ) : ℝ) : EReal) = 0
  simp

/-- The batch normalisation. -/
theorem v32_at (r : Fin 10000) (j : Fin 64) :
    (show Vec Ideal S10000x64 .f32 from res_main_v32 V) (ix2 r j)
      = norm (conv (adj V) (node (feat V) (wd V) (bd V)) (w0 V) (b0 V) (r0 V)) (gam V) (bet V) r j := by
  have h := v13_at V
  dsimp only at h ⊢
  unfold res_main_v32 res_main_call1_v5 res_main_call1_v8
  clean_types
  pointwise
  rw [divisor, if_pos count_pos, ← norm_eq]
  simp only [h]
  rfl

/-- The normalised nodes after their activation. -/
theorem v33_at (r : Fin 10000) (j : Fin 64) :
    (show Vec Ideal S10000x64 .f32 from res_main_v33 V) (ix2 r j)
      = act (conv (adj V) (node (feat V) (wd V) (bd V)) (w0 V) (b0 V) (r0 V)) (gam V) (bet V) r j := by
  have h := v32_at V r j
  dsimp only at h ⊢
  unfold res_main_v33
  clean_types
  pointwise
  have z : id (constant (F := Ideal) S_ FTy.f32 0#32) ix0 = 0 := Ideal.ofBits_zero_f32
  rw [z]
  unfold act
  rw [← elu_guard, ← h]

/-- The reference's result, as its run states it. -/
def result : Vec Ideal S10000x32 .f32 :=
  addf (addf (Host.reduceAdd (Host.dotGeneral (φ₁ := .f32) (φ₂ := .f32) dot_S2x10000x10000_S2x10000x32_S2x10000x32_2_1_1_2_0_0 none (V (Proc.devRef .tc main_arg1)) (transpose S2x10000x32 [0, 2, 1] (Host.dotGeneral (φ₁ := .f32) (φ₂ := .f32) dot_S2x64x32_S10000x64_S2x32x10000_1_1_02_0_n_n none (V (Proc.devRef .tc main_arg9)) (res_main_v33 V)) transposes_S2x32x10000_S2x10000x32_0_2_1)) (constant S_ .f32 0x00000000#32) reducesTo_S2x10000x32_S10000x32_d0 h_S_) (broadcastInDim S10000x32 ![0, 1] bcast_S1x32_S10000x32_0_1 (broadcastInDim S1x32 ![1] bcast_S32_S1x32_1 (V (Proc.devRef .tc main_arg10))))) (Host.dotGeneral (φ₁ := .f32) (φ₂ := .f32) dot_S10000x64_S64x32_S10000x32_1_0_0_1_n_n none (res_main_v33 V) (V (Proc.devRef .tc main_arg11)))

/-- The reference's result is the network. -/
theorem result_at (r : Fin 10000) (j : Fin 32) :
    result V (ix2 r j) = net (feat V) (adj V) (wd V) (bd V) (w0 V) (b0 V) (r0 V) (gam V) (bet V) (w1 V) (b1 V) (r1 V) r j := by
  have h := v33_at V
  dsimp only at h
  unfold result
  clean_types
  pointwise
  unfold net
  rw [← conv_eq]
  simp only [h]

end Cert.Proof.Ref

end

end
-- ==== Proof.Algebraic.lean ====
module

public import proofs.«01_k».proof.Defs
public import proofs.«01_k».proof.Proof.Frames
public import proofs.«01_k».proof.Proof.Arrays
public import proofs.«01_k».proof.Proof.Reference

/-!
The value claim: over the extended reals the kernel and the reference end with the same array.
-/

@[expose] public section

set_option maxRecDepth 16384

namespace Cert.Proof

open Idealize.ShloMosaic Idealize.ShloMosaic.TcCoe Idealize.SL.Sem

attribute [local instance] Cert.KernelIdeal.Gen.facts Cert.ReferenceIdeal.Gen.facts

/-- On equal arguments the reference's result is the kernel's. -/
theorem result_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h : Ref.feat V = Ker.feat m c ∧ Ref.adj V = Ker.adj m c ∧ Ref.wd V = Ker.wd m c ∧ Ref.bd V = Ker.bd m c ∧ Ref.w0 V = Ker.w0 m c
      ∧ Ref.b0 V = Ker.b0 m c ∧ Ref.r0 V = Ker.r0 m c ∧ Ref.gam V = Ker.gam m c ∧ Ref.bet V = Ker.bet m c ∧ Ref.w1 V = Ker.w1 m c
      ∧ Ref.b1 V = Ker.b1 m c ∧ Ref.r1 V = Ker.r1 m c) :
    Ref.result V = (fggOut m c : Vec Ideal Cert.KernelIdeal.S10000x32 .f32) := by
  obtain ⟨h0, h1, h2, h3, h4, h5, h6, h7, h8, h9, h10, h11⟩ := h
  funext i
  obtain ⟨r, j, rfl⟩ : ∃ (r : Fin 10000) (j : Fin 32), i = ix2 r j := ⟨i 0, i 1, funext fun a => by fin_cases a <;> rfl⟩
  refine (Ref.result_at V r j).trans ?_
  rw [h0, h1, h2, h3, h4, h5, h6, h7, h8, h9, h10, h11]
  exact (fggOut_at m c r j).symm

/-- The kernel and the reference compute the same array. -/
theorem algebraic : Cert.algebraic_KernelIdeal_ReferenceIdeal := by
  intro m g m' g' _ hargs
  refine ⟨fun c => fggOut m c, ?_, ?_⟩
  · exact (θ_run Cert.KernelIdeal.defs _ _).mono (fun _ h => h.1) (run_ends (F := Ideal) m g)
  · refine (θ_run Cert.ReferenceIdeal.defs _ _).mono (fun r h c => ⟨?_, (h c).2⟩) (Cert.ReferenceIdeal.Value.run m' g')
    refine (h c).1.trans ?_
    obtain ⟨h0, h1, h2, h3, h4, h5, h6, h7, h8, h9, h10, h11⟩ := hargs c
    refine result_eq m (StableHlo.launchContents m' c) c ⟨?_, ?_, ?_, ?_, ?_, ?_, ?_, ?_, ?_, ?_, ?_, ?_⟩
    · exact funext fun r => funext fun q => congrFun h0 (ix2 r q)
    · exact funext fun e => funext fun r => funext fun s => congrFun h1 (ix3 e r s)
    · exact funext fun q => funext fun k => congrFun h2 (ix2 q k)
    · exact funext fun k => congrFun h3 (ix1 k)
    · exact funext fun e => funext fun k => funext fun j => congrFun h4 (ix3 e k j)
    · exact funext fun j => congrFun h5 (ix1 j)
    · exact funext fun k => funext fun j => congrFun h6 (ix2 k j)
    · exact funext fun j => congrFun h7 (ix1 j)
    · exact funext fun j => congrFun h8 (ix1 j)
    · exact funext fun e => funext fun k => funext fun j => congrFun h9 (ix3 e k j)
    · exact funext fun j => congrFun h10 (ix1 j)
    · exact funext fun k => funext fun j => congrFun h11 (ix2 k j)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate: the facts of the three programs, then the claims in their order. -/
theorem claim : Cert.Claim := ⟨Cert.Kernel.Gen.facts, Cert.KernelIdeal.Gen.facts, Cert.ReferenceIdeal.Gen.facts,
  frame_kernel, frame_ideal, frame_reference, trivial, algebraic⟩

end Cert.Proof

end
